-- ==== Defs.lean ====
def Pre_Kernel [hPre_tokens_in_vocabulary : Cert.Pre_tokens_in_vocabulary.Facts] (m : (ℓ : Loc Cert.Kernel.nD Cert.Kernel.τ Cert.Kernel.sig) → Buf (Elt Bits) ℓ) : Prop :=
  ∀ c : Dev Cert.Kernel.nD,
    (Cert.Pre_tokens_in_vocabulary.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_tokens_in_vocabulary : Cert.Pre_tokens_in_vocabulary.Facts] (m : (ℓ : Loc Cert.KernelIdeal.nD Cert.KernelIdeal.τ Cert.KernelIdeal.sig) → Buf (Elt Ideal) ℓ) : Prop :=
  ∀ c : Dev Cert.KernelIdeal.nD,
    (Cert.Pre_tokens_in_vocabulary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tokens_in_vocabulary [hPre_tokens_in_vocabulary : Cert.Pre_tokens_in_vocabulary.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tokens_in_vocabulary.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] [hPre_tokens_in_vocabulary : Cert.Pre_tokens_in_vocabulary.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_tokens_in_vocabulary : Cert.Pre_tokens_in_vocabulary.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_tokens_in_vocabulary [hReferenceIdeal : Cert.ReferenceIdeal.Facts] [hPre_tokens_in_vocabulary : Cert.Pre_tokens_in_vocabulary.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tokens_in_vocabulary m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_tokens_in_vocabulary : Cert.Pre_tokens_in_vocabulary.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_tokens_in_vocabulary : Cert.Pre_tokens_in_vocabulary.Facts),
    quiescent_Kernel (hKernel := hKernel) (hPre_tokens_in_vocabulary := hPre_tokens_in_vocabulary)
    ∧ quiescent_KernelIdeal (hKernelIdeal := hKernelIdeal) (hPre_tokens_in_vocabulary := hPre_tokens_in_vocabulary)
    ∧ quiescent_ReferenceIdeal (hReferenceIdeal := hReferenceIdeal)
    ∧ quiescent_ReferenceIdeal_pre_tokens_in_vocabulary (hReferenceIdeal := hReferenceIdeal) (hPre_tokens_in_vocabulary := hPre_tokens_in_vocabulary)
    ∧ preserves_Kernel_KernelIdeal
    ∧ algebraic_KernelIdeal_ReferenceIdeal (hKernelIdeal := hKernelIdeal) (hReferenceIdeal := hReferenceIdeal) (hPre_tokens_in_vocabulary := hPre_tokens_in_vocabulary)
-- ==== Pre_tokens_in_vocabulary.lean ====
abbrev S16384x20 : Shape := ⟨2, ![16384, 20]⟩
abbrev S16384x200 : Shape := ⟨2, ![16384, 200]⟩
abbrev S1000x64 : Shape := ⟨2, ![1000, 64]⟩
abbrev S64x64 : Shape := ⟨2, ![64, 64]⟩
abbrev S64 : Shape := ⟨1, ![64]⟩
abbrev S_ : Shape := ⟨0, ![]⟩

class Facts : Prop where
  bcast_S_S16384x20 : S_.BroadcastsInDim S16384x20 (![] : Fin 0 → Fin S16384x20.rank)
  reducesTo_S16384x20_S_d0_1 : S16384x20.ReducesTo [0, 1] S_
  h_S_ : 0 < S_.numel
  bcast_S_S16384x200 : S_.BroadcastsInDim S16384x200 (![] : Fin 0 → Fin S16384x200.rank)
  reducesTo_S16384x200_S_d0_1 : S16384x200.ReducesTo [0, 1] S_

variable [Facts]

def fn {F : FTy → Type} [FloatOps F] (main_arg0 : IVec S16384x20 32) (main_arg1 : IVec S16384x200 32) (main_arg2 : FVec F S1000x64 .f32) (main_arg3 : FVec F S64x64 .f32) (main_arg4 : FVec F S64 .f32) (main_arg5 : FVec F S64x64 .f32) (main_arg6 : FVec F S64 .f32) : IVec S_ 1 :=
  let main_c : IVec S_ 32 := constantI S_ 32 0#32
  let main_v0 : IVec S16384x20 32 := broadcastInDim S16384x20 ![] bcast_S_S16384x20 main_c
  let main_v1 : IVec S16384x20 1 := cmpi .sge main_arg0 main_v0
  let main_c_0 : IVec S_ 1 := constantI S_ 1 1#1
  let main_v2 : IVec S_ 1 := (fun x v => Host.reduce IntOp.andi x v reducesTo_S16384x20_S_d0_1 h_S_) main_v1 main_c_0
  let main_c_1 : IVec S_ 32 := constantI S_ 32 1000#32
  let main_v3 : IVec S16384x20 32 := broadcastInDim S16384x20 ![] bcast_S_S16384x20 main_c_1
  let main_v4 : IVec S16384x20 1 := cmpi .slt main_arg0 main_v3
  let main_c_2 : IVec S_ 1 := constantI S_ 1 1#1
  let main_v5 : IVec S_ 1 := (fun x v => Host.reduce IntOp.andi x v reducesTo_S16384x20_S_d0_1 h_S_) main_v4 main_c_2
  let main_v6 : IVec S_ 1 := andi main_v2 main_v5
  let main_c_3 : IVec S_ 32 := constantI S_ 32 0#32
  let main_v7 : IVec S16384x200 32 := broadcastInDim S16384x200 ![] bcast_S_S16384x200 main_c_3
  let main_v8 : IVec S16384x200 1 := cmpi .sge main_arg1 main_v7
  let main_c_4 : IVec S_ 1 := constantI S_ 1 1#1
  let main_v9 : IVec S_ 1 := (fun x v => Host.reduce IntOp.andi x v reducesTo_S16384x200_S_d0_1 h_S_) main_v8 main_c_4
  let main_v10 : IVec S_ 1 := andi main_v6 main_v9
  let main_c_5 : IVec S_ 32 := constantI S_ 32 1000#32
  let main_v11 : IVec S16384x200 32 := broadcastInDim S16384x200 ![] bcast_S_S16384x200 main_c_5
  let main_v12 : IVec S16384x200 1 := cmpi .slt main_arg1 main_v11
  let main_c_6 : IVec S_ 1 := constantI S_ 1 1#1
  let main_v13 : IVec S_ 1 := (fun x v => Host.reduce IntOp.andi x v reducesTo_S16384x200_S_d0_1 h_S_) main_v12 main_c_6
  let main_v14 : IVec S_ 1 := andi main_v10 main_v13
  main_v14
-- ==== Kernel.lean ====
abbrev S16384x20 : Shape := ⟨2, ![16384, 20]⟩
abbrev S16384x200 : Shape := ⟨2, ![16384, 200]⟩
abbrev S1000x64 : Shape := ⟨2, ![1000, 64]⟩
abbrev S64x64 : Shape := ⟨2, ![64, 64]⟩
abbrev S64 : Shape := ⟨1, ![64]⟩
abbrev S327680 : Shape := ⟨1, ![327680]⟩
abbrev S3276800 : Shape := ⟨1, ![3276800]⟩
abbrev S16777216 : Shape := ⟨1, ![16777216]⟩
abbrev S656 : Shape := ⟨1, ![656]⟩
abbrev S6416 : Shape := ⟨1, ![6416]⟩
abbrev S32768 : Shape := ⟨1, ![32768]⟩
abbrev S16 : Shape := ⟨1, ![16]⟩
abbrev S_ : Shape := ⟨0, ![]⟩
abbrev S640 : Shape := ⟨1, ![640]⟩
abbrev S6400 : Shape := ⟨1, ![6400]⟩
abbrev S16384x1024 : Shape := ⟨2, ![16384, 1024]⟩
abbrev S1024x64 : Shape := ⟨2, ![1024, 64]⟩
abbrev S1 : Shape := ⟨1, ![1]⟩
abbrev S1x64 : Shape := ⟨2, ![1, 64]⟩
abbrev S16384x1 : Shape := ⟨2, ![16384, 1]⟩
abbrev S1024x1024 : Shape := ⟨2, ![1024, 1024]⟩
abbrev S1024x1 : Shape := ⟨2, ![1024, 1]⟩
abbrev S1024 : Shape := ⟨1, ![1024]⟩

abbrev nBuf : Table → Nat
  | .hbm => 23
  | .local .tc .vmem => 11
  | .local .scVector .vmem => 4
  | _ => 0

abbrev bufTy : (tb : Table) → Fin (nBuf tb) → BufTy
  | .hbm, ⟨0, _⟩ => ⟨S16384x20, .i32⟩
  | .hbm, ⟨1, _⟩ => ⟨S16384x200, .i32⟩
  | .hbm, ⟨2, _⟩ => ⟨S1000x64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S327680, .i32⟩
  | .hbm, ⟨8, _⟩ => ⟨S3276800, .i32⟩
  | .hbm, ⟨9, _⟩ => ⟨S16777216, .f32⟩
  | .hbm, ⟨10, _⟩ => ⟨S16777216, .f32⟩
  | .hbm, ⟨11, _⟩ => ⟨S16384x1024, .f32⟩
  | .hbm, ⟨12, _⟩ => ⟨S16384x1024, .f32⟩
  | .hbm, ⟨13, _⟩ => ⟨S_, .f32⟩
  | .hbm, ⟨14, _⟩ => ⟨S1024x64, .f32⟩
  | .hbm, ⟨15, _⟩ => ⟨S_, .i32⟩
  | .hbm, ⟨16, _⟩ => ⟨S1, .i32⟩
  | .hbm, ⟨17, _⟩ => ⟨S1024x64, .f32⟩
  | .hbm, ⟨18, _⟩ => ⟨S64x64, .f32⟩
  | .hbm, ⟨19, _⟩ => ⟨S1x64, .f32⟩
  | .hbm, ⟨20, _⟩ => ⟨S64x64, .f32⟩
  | .hbm, ⟨21, _⟩ => ⟨S1x64, .f32⟩
  | .hbm, ⟨22, _⟩ => ⟨S16384x1, .f32⟩
  | .local .tc .vmem, ⟨0, _⟩ => ⟨S1024x1024, .f32⟩
  | .local .tc .vmem, ⟨1, _⟩ => ⟨S1024x1024, .f32⟩
  | .local .tc .vmem, ⟨2, _⟩ => ⟨S1024x1024, .f32⟩
  | .local .tc .vmem, ⟨3, _⟩ => ⟨S1024x1024, .f32⟩
  | .local .tc .vmem, ⟨4, _⟩ => ⟨S1024x64, .f32⟩
  | .local .tc .vmem, ⟨5, _⟩ => ⟨S64x64, .f32⟩
  | .local .tc .vmem, ⟨6, _⟩ => ⟨S1x64, .f32⟩
  | .local .tc .vmem, ⟨7, _⟩ => ⟨S64x64, .f32⟩
  | .local .tc .vmem, ⟨8, _⟩ => ⟨S1x64, .f32⟩
  | .local .tc .vmem, ⟨9, _⟩ => ⟨S1024x1, .f32⟩
  | .local .tc .vmem, ⟨10, _⟩ => ⟨S1024x1, .f32⟩
  | .local .scVector .vmem, ⟨0, _⟩ => ⟨S656, .i32⟩
  | .local .scVector .vmem, ⟨1, _⟩ => ⟨S6416, .i32⟩
  | .local .scVector .vmem, ⟨2, _⟩ => ⟨S32768, .f32⟩
  | .local .scVector .vmem, ⟨3, _⟩ => ⟨S32768, .f32⟩
  | _, _ => ⟨S16384x20, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 15 → Bool
  | ⟨0, _⟩ => false
  | ⟨1, _⟩ => false
  | ⟨2, _⟩ => false
  | ⟨3, _⟩ => false
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTables nBuf rfl bufTy 4 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_c : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v0_scv : Ref sig .scVector := ⟨.hbm, 7, rfl⟩
abbrev main_v1_scv : Ref sig .scVector := ⟨.hbm, 8, rfl⟩
abbrev main_v2_0_scv : Ref sig .scVector := ⟨.hbm, 9, rfl⟩
abbrev main_v2_1_scv : Ref sig .scVector := ⟨.hbm, 10, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg3_0 : Ref sig .tc := ⟨.vmem, 5, rfl⟩
abbrev cc1_stg4_0 : Ref sig .tc := ⟨.vmem, 6, rfl⟩
abbrev cc1_stg5_0 : Ref sig .tc := ⟨.vmem, 7, rfl⟩
abbrev cc1_stg6_0 : Ref sig .tc := ⟨.vmem, 8, rfl⟩
abbrev cc1_stg7_0 : Ref sig .tc := ⟨.vmem, 9, rfl⟩
abbrev cc1_stg7_1 : Ref sig .tc := ⟨.vmem, 10, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem7_0 : DmaSem sig := 13
abbrev cc1_sem7_1 : DmaSem sig := 14
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_1 : BitVec 32 := 0#32
  let c2048_i32 : BitVec 32 := 2048#32
  let v5 : BitVec 32 := Scalar.addi c0_i32_1 c2048_i32
  let c1_i32 : BitVec 32 := 1#32
  ⟨c0_i32_1, v5, c1_i32⟩
def k0_off1 (k0_t1 : Fin k0_t1_loop.trips) : Fin 1 → Nat :=
  let c0_i32_1 : BitVec 32 := 0#32
  let c1_i32 : BitVec 32 := 1#32
  let arg10 : BitVec 32 := Scf.iv c0_i32_1 c1_i32 k0_t1
  let c16_i32_9 : BitVec 32 := 16#32
  let v11 : BitVec 32 := Scalar.muli arg10 c16_i32_9
  let v12 : Index := Scalar.indexCast v11
  ![v12.toNat]
@[reducible] def k0_t2_loop : Scf.Loop 32 :=
  let c0_i32_6 : BitVec 32 := 0#32
  let c16_i32 : BitVec 32 := 16#32
  let v10 : BitVec 32 := Scalar.addi c0_i32_6 c16_i32
  let c1_i32_7 : BitVec 32 := 1#32
  ⟨c0_i32_6, v10, c1_i32_7⟩
def k0_off2 (i : grid0.Coords) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v11 : BitVec 32 := Scalar.muli v1 c512_i32
  let c0_i32_6 : BitVec 32 := 0#32
  let c1_i32_7 : BitVec 32 := 1#32
  let arg10 : BitVec 32 := Scf.iv c0_i32_6 c1_i32_7 k0_t2
  let c32_i32 : BitVec 32 := 32#32
  let v12 : BitVec 32 := Scalar.muli arg10 c32_i32
  let v13 : BitVec 32 := Scalar.addi v11 v12
  let c20_i32 : BitVec 32 := 20#32
  let v14 : BitVec 32 := Scalar.muli v13 c20_i32
  ![v14.toNat]
def k0_off3 (i : grid0.Coords) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v11 : BitVec 32 := Scalar.muli v1 c512_i32
  let c0_i32_6 : BitVec 32 := 0#32
  let c1_i32_7 : BitVec 32 := 1#32
  let arg10 : BitVec 32 := Scf.iv c0_i32_6 c1_i32_7 k0_t2
  let c32_i32 : BitVec 32 := 32#32
  let v12 : BitVec 32 := Scalar.muli arg10 c32_i32
  let v13 : BitVec 32 := Scalar.addi v11 v12
  let c200_i32 : BitVec 32 := 200#32
  let v15 : BitVec 32 := Scalar.muli v13 c200_i32
  ![v15.toNat]
@[reducible] def k0_t3_loop : Scf.Loop 32 :=
  let c0_i32_10 : BitVec 32 := 0#32
  let c32_i32_11 : BitVec 32 := 32#32
  let v18 : BitVec 32 := Scalar.addi c0_i32_10 c32_i32_11
  let c1_i32_12 : BitVec 32 := 1#32
  ⟨c0_i32_10, v18, c1_i32_12⟩
def k0_off4 (k0_t3 : Fin k0_t3_loop.trips) : Fin 1 → Nat :=
  let c0_i32_10 : BitVec 32 := 0#32
  let c1_i32_12 : BitVec 32 := 1#32
  let arg11 : BitVec 32 := Scf.iv c0_i32_10 c1_i32_12 k0_t3
  let c20_i32_32 : BitVec 32 := 20#32
  let v30 : BitVec 32 := Scalar.muli arg11 c20_i32_32
  let c0_i32_34 : BitVec 32 := 0#32
  let v32 : BitVec 32 := Scalar.addi v30 c0_i32_34
  let v33 : Index := Scalar.indexCast v32
  ![v33.toNat]

def k0_chk1 (v36 : IVec S16 32) : Prop :=
  (∀ a x, ((![v36] : Fin 1 → IVec S16 32) a x).toNat < S32768.size a)
theorem k0_idx1_inb : ∀ (v36 : IVec S16 32) (k0_hw1 : k0_chk1 v36), ∀ a x, ((![v36] : Fin 1 → IVec S16 32) a x).toNat < S32768.size a := fun v36 k0_hw1 => k0_hw1
def k0_off5 (k0_t3 : Fin k0_t3_loop.trips) : Fin 1 → Nat :=
  let c0_i32_10 : BitVec 32 := 0#32
  let c1_i32_12 : BitVec 32 := 1#32
  let arg11 : BitVec 32 := Scf.iv c0_i32_10 c1_i32_12 k0_t3
  let c20_i32_32 : BitVec 32 := 20#32
  let v30 : BitVec 32 := Scalar.muli arg11 c20_i32_32
  let c16_i32_35 : BitVec 32 := 16#32
  let v37 : BitVec 32 := Scalar.addi v30 c16_i32_35
  let v38 : Index := Scalar.indexCast v37
  ![v38.toNat]

def k0_chk2 (v41 : IVec S16 32) : Prop :=
  (∀ a x, ((![v41] : Fin 1 → IVec S16 32) a x).toNat < S32768.size a)
theorem k0_idx2_inb : ∀ (v41 : IVec S16 32) (k0_hw2 : k0_chk2 v41), ∀ a x, ((![v41] : Fin 1 → IVec S16 32) a x).toNat < S32768.size a := fun v41 k0_hw2 => k0_hw2
@[reducible] def k0_t4_loop : Scf.Loop 32 :=
  let c0_i32_15 : BitVec 32 := 0#32
  let c32_i32_16 : BitVec 32 := 32#32
  let v21 : BitVec 32 := Scalar.addi c0_i32_15 c32_i32_16
  let c1_i32_17 : BitVec 32 := 1#32
  ⟨c0_i32_15, v21, c1_i32_17⟩
def k0_off6 (k0_t4 : Fin k0_t4_loop.trips) : Fin 1 → Nat :=
  let c0_i32_15 : BitVec 32 := 0#32
  let c1_i32_17 : BitVec 32 := 1#32
  let arg11 : BitVec 32 := Scf.iv c0_i32_15 c1_i32_17 k0_t4
  let c200_i32_32 : BitVec 32 := 200#32
  let v30 : BitVec 32 := Scalar.muli arg11 c200_i32_32
  let c0_i32_34 : BitVec 32 := 0#32
  let v32 : BitVec 32 := Scalar.addi v30 c0_i32_34
  let v33 : Index := Scalar.indexCast v32
  ![v33.toNat]

def k0_chk3 (v36 : IVec S16 32) : Prop :=
  (∀ a x, ((![v36] : Fin 1 → IVec S16 32) a x).toNat < S32768.size a)
theorem k0_idx3_inb : ∀ (v36 : IVec S16 32) (k0_hw3 : k0_chk3 v36), ∀ a x, ((![v36] : Fin 1 → IVec S16 32) a x).toNat < S32768.size a := fun v36 k0_hw3 => k0_hw3
def k0_off7 (k0_t4 : Fin k0_t4_loop.trips) : Fin 1 → Nat :=
  let c0_i32_15 : BitVec 32 := 0#32
  let c1_i32_17 : BitVec 32 := 1#32
  let arg11 : BitVec 32 := Scf.iv c0_i32_15 c1_i32_17 k0_t4
  let c200_i32_32 : BitVec 32 := 200#32
  let v30 : BitVec 32 := Scalar.muli arg11 c200_i32_32
  let c16_i32_35 : BitVec 32 := 16#32
  let v37 : BitVec 32 := Scalar.addi v30 c16_i32_35
  let v38 : Index := Scalar.indexCast v37
  ![v38.toNat]

def k0_chk4 (v41 : IVec S16 32) : Prop :=
  (∀ a x, ((![v41] : Fin 1 → IVec S16 32) a x).toNat < S32768.size a)
theorem k0_idx4_inb : ∀ (v41 : IVec S16 32) (k0_hw4 : k0_chk4 v41), ∀ a x, ((![v41] : Fin 1 → IVec S16 32) a x).toNat < S32768.size a := fun v41 k0_hw4 => k0_hw4
def k0_off8 (k0_t4 : Fin k0_t4_loop.trips) : Fin 1 → Nat :=
  let c0_i32_15 : BitVec 32 := 0#32
  let c1_i32_17 : BitVec 32 := 1#32
  let arg11 : BitVec 32 := Scf.iv c0_i32_15 c1_i32_17 k0_t4
  let c200_i32_32 : BitVec 32 := 200#32
  let v30 : BitVec 32 := Scalar.muli arg11 c200_i32_32
  let c32_i32_36 : BitVec 32 := 32#32
  let v42 : BitVec 32 := Scalar.addi v30 c32_i32_36
  let v43 : Index := Scalar.indexCast v42
  ![v43.toNat]

def k0_chk5 (v46 : IVec S16 32) : Prop :=
  (∀ a x, ((![v46] : Fin 1 → IVec S16 32) a x).toNat < S32768.size a)
theorem k0_idx5_inb : ∀ (v46 : IVec S16 32) (k0_hw5 : k0_chk5 v46), ∀ a x, ((![v46] : Fin 1 → IVec S16 32) a x).toNat < S32768.size a := fun v46 k0_hw5 => k0_hw5
def k0_off9 (k0_t4 : Fin k0_t4_loop.trips) : Fin 1 → Nat :=
  let c0_i32_15 : BitVec 32 := 0#32
  let c1_i32_17 : BitVec 32 := 1#32
  let arg11 : BitVec 32 := Scf.iv c0_i32_15 c1_i32_17 k0_t4
  let c200_i32_32 : BitVec 32 := 200#32
  let v30 : BitVec 32 := Scalar.muli arg11 c200_i32_32
  let c48_i32 : BitVec 32 := 48#32
  let v47 : BitVec 32 := Scalar.addi v30 c48_i32
  let v48 : Index := Scalar.indexCast v47
  ![v48.toNat]

def k0_chk6 (v51 : IVec S16 32) : Prop :=
  (∀ a x, ((![v51] : Fin 1 → IVec S16 32) a x).toNat < S32768.size a)
theorem k0_idx6_inb : ∀ (v51 : IVec S16 32) (k0_hw6 : k0_chk6 v51), ∀ a x, ((![v51] : Fin 1 → IVec S16 32) a x).toNat < S32768.size a := fun v51 k0_hw6 => k0_hw6
def k0_off10 (k0_t4 : Fin k0_t4_loop.trips) : Fin 1 → Nat :=
  let c0_i32_15 : BitVec 32 := 0#32
  let c1_i32_17 : BitVec 32 := 1#32
  let arg11 : BitVec 32 := Scf.iv c0_i32_15 c1_i32_17 k0_t4
  let c200_i32_32 : BitVec 32 := 200#32
  let v30 : BitVec 32 := Scalar.muli arg11 c200_i32_32
  let c64_i32 : BitVec 32 := 64#32
  let v52 : BitVec 32 := Scalar.addi v30 c64_i32
  let v53 : Index := Scalar.indexCast v52
  ![v53.toNat]

def k0_chk7 (v56 : IVec S16 32) : Prop :=
  (∀ a x, ((![v56] : Fin 1 → IVec S16 32) a x).toNat < S32768.size a)
theorem k0_idx7_inb : ∀ (v56 : IVec S16 32) (k0_hw7 : k0_chk7 v56), ∀ a x, ((![v56] : Fin 1 → IVec S16 32) a x).toNat < S32768.size a := fun v56 k0_hw7 => k0_hw7
def k0_off11 (k0_t4 : Fin k0_t4_loop.trips) : Fin 1 → Nat :=
  let c0_i32_15 : BitVec 32 := 0#32
  let c1_i32_17 : BitVec 32 := 1#32
  let arg11 : BitVec 32 := Scf.iv c0_i32_15 c1_i32_17 k0_t4
  let c200_i32_32 : BitVec 32 := 200#32
  let v30 : BitVec 32 := Scalar.muli arg11 c200_i32_32
  let c80_i32 : BitVec 32 := 80#32
  let v57 : BitVec 32 := Scalar.addi v30 c80_i32
  let v58 : Index := Scalar.indexCast v57
  ![v58.toNat]

def k0_chk8 (v61 : IVec S16 32) : Prop :=
  (∀ a x, ((![v61] : Fin 1 → IVec S16 32) a x).toNat < S32768.size a)
theorem k0_idx8_inb : ∀ (v61 : IVec S16 32) (k0_hw8 : k0_chk8 v61), ∀ a x, ((![v61] : Fin 1 → IVec S16 32) a x).toNat < S32768.size a := fun v61 k0_hw8 => k0_hw8
def k0_off12 (k0_t4 : Fin k0_t4_loop.trips) : Fin 1 → Nat :=
  let c0_i32_15 : BitVec 32 := 0#32
  let c1_i32_17 : BitVec 32 := 1#32
  let arg11 : BitVec 32 := Scf.iv c0_i32_15 c1_i32_17 k0_t4
  let c200_i32_32 : BitVec 32 := 200#32
  let v30 : BitVec 32 := Scalar.muli arg11 c200_i32_32
  let c96_i32 : BitVec 32 := 96#32
  let v62 : BitVec 32 := Scalar.addi v30 c96_i32
  let v63 : Index := Scalar.indexCast v62
  ![v63.toNat]

def k0_chk9 (v66 : IVec S16 32) : Prop :=
  (∀ a x, ((![v66] : Fin 1 → IVec S16 32) a x).toNat < S32768.size a)
theorem k0_idx9_inb : ∀ (v66 : IVec S16 32) (k0_hw9 : k0_chk9 v66), ∀ a x, ((![v66] : Fin 1 → IVec S16 32) a x).toNat < S32768.size a := fun v66 k0_hw9 => k0_hw9
def k0_off13 (k0_t4 : Fin k0_t4_loop.trips) : Fin 1 → Nat :=
  let c0_i32_15 : BitVec 32 := 0#32
  let c1_i32_17 : BitVec 32 := 1#32
  let arg11 : BitVec 32 := Scf.iv c0_i32_15 c1_i32_17 k0_t4
  let c200_i32_32 : BitVec 32 := 200#32
  let v30 : BitVec 32 := Scalar.muli arg11 c200_i32_32
  let c112_i32 : BitVec 32 := 112#32
  let v67 : BitVec 32 := Scalar.addi v30 c112_i32
  let v68 : Index := Scalar.indexCast v67
  ![v68.toNat]

def k0_chk10 (v71 : IVec S16 32) : Prop :=
  (∀ a x, ((![v71] : Fin 1 → IVec S16 32) a x).toNat < S32768.size a)
theorem k0_idx10_inb : ∀ (v71 : IVec S16 32) (k0_hw10 : k0_chk10 v71), ∀ a x, ((![v71] : Fin 1 → IVec S16 32) a x).toNat < S32768.size a := fun v71 k0_hw10 => k0_hw10
def k0_off14 (k0_t4 : Fin k0_t4_loop.trips) : Fin 1 → Nat :=
  let c0_i32_15 : BitVec 32 := 0#32
  let c1_i32_17 : BitVec 32 := 1#32
  let arg11 : BitVec 32 := Scf.iv c0_i32_15 c1_i32_17 k0_t4
  let c200_i32_32 : BitVec 32 := 200#32
  let v30 : BitVec 32 := Scalar.muli arg11 c200_i32_32
  let c128_i32 : BitVec 32 := 128#32
  let v72 : BitVec 32 := Scalar.addi v30 c128_i32
  let v73 : Index := Scalar.indexCast v72
  ![v73.toNat]

def k0_chk11 (v76 : IVec S16 32) : Prop :=
  (∀ a x, ((![v76] : Fin 1 → IVec S16 32) a x).toNat < S32768.size a)
theorem k0_idx11_inb : ∀ (v76 : IVec S16 32) (k0_hw11 : k0_chk11 v76), ∀ a x, ((![v76] : Fin 1 → IVec S16 32) a x).toNat < S32768.size a := fun v76 k0_hw11 => k0_hw11
def k0_off15 (k0_t4 : Fin k0_t4_loop.trips) : Fin 1 → Nat :=
  let c0_i32_15 : BitVec 32 := 0#32
  let c1_i32_17 : BitVec 32 := 1#32
  let arg11 : BitVec 32 := Scf.iv c0_i32_15 c1_i32_17 k0_t4
  let c200_i32_32 : BitVec 32 := 200#32
  let v30 : BitVec 32 := Scalar.muli arg11 c200_i32_32
  let c144_i32 : BitVec 32 := 144#32
  let v77 : BitVec 32 := Scalar.addi v30 c144_i32
  let v78 : Index := Scalar.indexCast v77
  ![v78.toNat]

def k0_chk12 (v81 : IVec S16 32) : Prop :=
  (∀ a x, ((![v81] : Fin 1 → IVec S16 32) a x).toNat < S32768.size a)
theorem k0_idx12_inb : ∀ (v81 : IVec S16 32) (k0_hw12 : k0_chk12 v81), ∀ a x, ((![v81] : Fin 1 → IVec S16 32) a x).toNat < S32768.size a := fun v81 k0_hw12 => k0_hw12
def k0_off16 (k0_t4 : Fin k0_t4_loop.trips) : Fin 1 → Nat :=
  let c0_i32_15 : BitVec 32 := 0#32
  let c1_i32_17 : BitVec 32 := 1#32
  let arg11 : BitVec 32 := Scf.iv c0_i32_15 c1_i32_17 k0_t4
  let c200_i32_32 : BitVec 32 := 200#32
  let v30 : BitVec 32 := Scalar.muli arg11 c200_i32_32
  let c160_i32 : BitVec 32 := 160#32
  let v82 : BitVec 32 := Scalar.addi v30 c160_i32
  let v83 : Index := Scalar.indexCast v82
  ![v83.toNat]

def k0_chk13 (v86 : IVec S16 32) : Prop :=
  (∀ a x, ((![v86] : Fin 1 → IVec S16 32) a x).toNat < S32768.size a)
theorem k0_idx13_inb : ∀ (v86 : IVec S16 32) (k0_hw13 : k0_chk13 v86), ∀ a x, ((![v86] : Fin 1 → IVec S16 32) a x).toNat < S32768.size a := fun v86 k0_hw13 => k0_hw13
def k0_off17 (k0_t4 : Fin k0_t4_loop.trips) : Fin 1 → Nat :=
  let c0_i32_15 : BitVec 32 := 0#32
  let c1_i32_17 : BitVec 32 := 1#32
  let arg11 : BitVec 32 := Scf.iv c0_i32_15 c1_i32_17 k0_t4
  let c200_i32_32 : BitVec 32 := 200#32
  let v30 : BitVec 32 := Scalar.muli arg11 c200_i32_32
  let c176_i32 : BitVec 32 := 176#32
  let v87 : BitVec 32 := Scalar.addi v30 c176_i32
  let v88 : Index := Scalar.indexCast v87
  ![v88.toNat]

def k0_chk14 (v91 : IVec S16 32) : Prop :=
  (∀ a x, ((![v91] : Fin 1 → IVec S16 32) a x).toNat < S32768.size a)
theorem k0_idx14_inb : ∀ (v91 : IVec S16 32) (k0_hw14 : k0_chk14 v91), ∀ a x, ((![v91] : Fin 1 → IVec S16 32) a x).toNat < S32768.size a := fun v91 k0_hw14 => k0_hw14
def k0_off18 (k0_t4 : Fin k0_t4_loop.trips) : Fin 1 → Nat :=
  let c0_i32_15 : BitVec 32 := 0#32
  let c1_i32_17 : BitVec 32 := 1#32
  let arg11 : BitVec 32 := Scf.iv c0_i32_15 c1_i32_17 k0_t4
  let c200_i32_32 : BitVec 32 := 200#32
  let v30 : BitVec 32 := Scalar.muli arg11 c200_i32_32
  let c192_i32 : BitVec 32 := 192#32
  let v92 : BitVec 32 := Scalar.addi v30 c192_i32
  let v93 : Index := Scalar.indexCast v92
  ![v93.toNat]

def k0_chk15 (v96 : IVec S16 32) : Prop :=
  (∀ a x, ((![v96] : Fin 1 → IVec S16 32) a x).toNat < S32768.size a)
theorem k0_idx15_inb : ∀ (v96 : IVec S16 32) (k0_hw15 : k0_chk15 v96), ∀ a x, ((![v96] : Fin 1 → IVec S16 32) a x).toNat < S32768.size a := fun v96 k0_hw15 => k0_hw15
def k0_off19 (i : grid0.Coords) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v11 : BitVec 32 := Scalar.muli v1 c512_i32
  let c0_i32_6 : BitVec 32 := 0#32
  let c1_i32_7 : BitVec 32 := 1#32
  let arg10 : BitVec 32 := Scf.iv c0_i32_6 c1_i32_7 k0_t2
  let c32_i32 : BitVec 32 := 32#32
  let v12 : BitVec 32 := Scalar.muli arg10 c32_i32
  let v13 : BitVec 32 := Scalar.addi v11 v12
  let c1024_i32 : BitVec 32 := 1024#32
  let v22 : BitVec 32 := Scalar.muli v13 c1024_i32
  ![v22.toNat]
@[reducible] def k0_t5_loop : Scf.Loop 32 :=
  let c0_i32_22 : BitVec 32 := 0#32
  let c32_i32_23 : BitVec 32 := 32#32
  let v26 : BitVec 32 := Scalar.addi c0_i32_22 c32_i32_23
  let c1_i32_24 : BitVec 32 := 1#32
  ⟨c0_i32_22, v26, c1_i32_24⟩
def k0_off20 (k0_t5 : Fin k0_t5_loop.trips) : Fin 1 → Nat :=
  let c0_i32_22 : BitVec 32 := 0#32
  let c1_i32_24 : BitVec 32 := 1#32
  let arg11 : BitVec 32 := Scf.iv c0_i32_22 c1_i32_24 k0_t5
  let c20_i32_32 : BitVec 32 := 20#32
  let v30 : BitVec 32 := Scalar.muli arg11 c20_i32_32
  let c0_i32_34 : BitVec 32 := 0#32
  let v32 : BitVec 32 := Scalar.addi v30 c0_i32_34
  let v33 : Index := Scalar.indexCast v32
  ![v33.toNat]

def k0_chk16 (v36 : IVec S16 32) : Prop :=
  (∀ a x, ((![v36] : Fin 1 → IVec S16 32) a x).toNat < S32768.size a)
theorem k0_idx16_inb : ∀ (v36 : IVec S16 32) (k0_hw16 : k0_chk16 v36), ∀ a x, ((![v36] : Fin 1 → IVec S16 32) a x).toNat < S32768.size a := fun v36 k0_hw16 => k0_hw16
def k0_off21 (k0_t5 : Fin k0_t5_loop.trips) : Fin 1 → Nat :=
  let c0_i32_22 : BitVec 32 := 0#32
  let c1_i32_24 : BitVec 32 := 1#32
  let arg11 : BitVec 32 := Scf.iv c0_i32_22 c1_i32_24 k0_t5
  let c20_i32_32 : BitVec 32 := 20#32
  let v30 : BitVec 32 := Scalar.muli arg11 c20_i32_32
  let c16_i32_35 : BitVec 32 := 16#32
  let v37 : BitVec 32 := Scalar.addi v30 c16_i32_35
  let v38 : Index := Scalar.indexCast v37
  ![v38.toNat]

def k0_chk17 (v41 : IVec S16 32) : Prop :=
  (∀ a x, ((![v41] : Fin 1 → IVec S16 32) a x).toNat < S32768.size a)
theorem k0_idx17_inb : ∀ (v41 : IVec S16 32) (k0_hw17 : k0_chk17 v41), ∀ a x, ((![v41] : Fin 1 → IVec S16 32) a x).toNat < S32768.size a := fun v41 k0_hw17 => k0_hw17
@[reducible] def k0_t6_loop : Scf.Loop 32 :=
  let c0_i32_28 : BitVec 32 := 0#32
  let c32_i32_29 : BitVec 32 := 32#32
  let v29 : BitVec 32 := Scalar.addi c0_i32_28 c32_i32_29
  let c1_i32_30 : BitVec 32 := 1#32
  ⟨c0_i32_28, v29, c1_i32_30⟩
def k0_off22 (k0_t6 : Fin k0_t6_loop.trips) : Fin 1 → Nat :=
  let c0_i32_28 : BitVec 32 := 0#32
  let c1_i32_30 : BitVec 32 := 1#32
  let arg11 : BitVec 32 := Scf.iv c0_i32_28 c1_i32_30 k0_t6
  let c200_i32_32 : BitVec 32 := 200#32
  let v30 : BitVec 32 := Scalar.muli arg11 c200_i32_32
  let c0_i32_34 : BitVec 32 := 0#32
  let v32 : BitVec 32 := Scalar.addi v30 c0_i32_34
  let v33 : Index := Scalar.indexCast v32
  ![v33.toNat]

def k0_chk18 (v36 : IVec S16 32) : Prop :=
  (∀ a x, ((![v36] : Fin 1 → IVec S16 32) a x).toNat < S32768.size a)
theorem k0_idx18_inb : ∀ (v36 : IVec S16 32) (k0_hw18 : k0_chk18 v36), ∀ a x, ((![v36] : Fin 1 → IVec S16 32) a x).toNat < S32768.size a := fun v36 k0_hw18 => k0_hw18
def k0_off23 (k0_t6 : Fin k0_t6_loop.trips) : Fin 1 → Nat :=
  let c0_i32_28 : BitVec 32 := 0#32
  let c1_i32_30 : BitVec 32 := 1#32
  let arg11 : BitVec 32 := Scf.iv c0_i32_28 c1_i32_30 k0_t6
  let c200_i32_32 : BitVec 32 := 200#32
  let v30 : BitVec 32 := Scalar.muli arg11 c200_i32_32
  let c16_i32_35 : BitVec 32 := 16#32
  let v37 : BitVec 32 := Scalar.addi v30 c16_i32_35
  let v38 : Index := Scalar.indexCast v37
  ![v38.toNat]

def k0_chk19 (v41 : IVec S16 32) : Prop :=
  (∀ a x, ((![v41] : Fin 1 → IVec S16 32) a x).toNat < S32768.size a)
theorem k0_idx19_inb : ∀ (v41 : IVec S16 32) (k0_hw19 : k0_chk19 v41), ∀ a x, ((![v41] : Fin 1 → IVec S16 32) a x).toNat < S32768.size a := fun v41 k0_hw19 => k0_hw19
def k0_off24 (k0_t6 : Fin k0_t6_loop.trips) : Fin 1 → Nat :=
  let c0_i32_28 : BitVec 32 := 0#32
  let c1_i32_30 : BitVec 32 := 1#32
  let arg11 : BitVec 32 := Scf.iv c0_i32_28 c1_i32_30 k0_t6
  let c200_i32_32 : BitVec 32 := 200#32
  let v30 : BitVec 32 := Scalar.muli arg11 c200_i32_32
  let c32_i32_36 : BitVec 32 := 32#32
  let v42 : BitVec 32 := Scalar.addi v30 c32_i32_36
  let v43 : Index := Scalar.indexCast v42
  ![v43.toNat]

def k0_chk20 (v46 : IVec S16 32) : Prop :=
  (∀ a x, ((![v46] : Fin 1 → IVec S16 32) a x).toNat < S32768.size a)
theorem k0_idx20_inb : ∀ (v46 : IVec S16 32) (k0_hw20 : k0_chk20 v46), ∀ a x, ((![v46] : Fin 1 → IVec S16 32) a x).toNat < S32768.size a := fun v46 k0_hw20 => k0_hw20
def k0_off25 (k0_t6 : Fin k0_t6_loop.trips) : Fin 1 → Nat :=
  let c0_i32_28 : BitVec 32 := 0#32
  let c1_i32_30 : BitVec 32 := 1#32
  let arg11 : BitVec 32 := Scf.iv c0_i32_28 c1_i32_30 k0_t6
  let c200_i32_32 : BitVec 32 := 200#32
  let v30 : BitVec 32 := Scalar.muli arg11 c200_i32_32
  let c48_i32 : BitVec 32 := 48#32
  let v47 : BitVec 32 := Scalar.addi v30 c48_i32
  let v48 : Index := Scalar.indexCast v47
  ![v48.toNat]

def k0_chk21 (v51 : IVec S16 32) : Prop :=
  (∀ a x, ((![v51] : Fin 1 → IVec S16 32) a x).toNat < S32768.size a)
theorem k0_idx21_inb : ∀ (v51 : IVec S16 32) (k0_hw21 : k0_chk21 v51), ∀ a x, ((![v51] : Fin 1 → IVec S16 32) a x).toNat < S32768.size a := fun v51 k0_hw21 => k0_hw21
def k0_off26 (k0_t6 : Fin k0_t6_loop.trips) : Fin 1 → Nat :=
  let c0_i32_28 : BitVec 32 := 0#32
  let c1_i32_30 : BitVec 32 := 1#32
  let arg11 : BitVec 32 := Scf.iv c0_i32_28 c1_i32_30 k0_t6
  let c200_i32_32 : BitVec 32 := 200#32
  let v30 : BitVec 32 := Scalar.muli arg11 c200_i32_32
  let c64_i32 : BitVec 32 := 64#32
  let v52 : BitVec 32 := Scalar.addi v30 c64_i32
  let v53 : Index := Scalar.indexCast v52
  ![v53.toNat]

def k0_chk22 (v56 : IVec S16 32) : Prop :=
  (∀ a x, ((![v56] : Fin 1 → IVec S16 32) a x).toNat < S32768.size a)
theorem k0_idx22_inb : ∀ (v56 : IVec S16 32) (k0_hw22 : k0_chk22 v56), ∀ a x, ((![v56] : Fin 1 → IVec S16 32) a x).toNat < S32768.size a := fun v56 k0_hw22 => k0_hw22
def k0_off27 (k0_t6 : Fin k0_t6_loop.trips) : Fin 1 → Nat :=
  let c0_i32_28 : BitVec 32 := 0#32
  let c1_i32_30 : BitVec 32 := 1#32
  let arg11 : BitVec 32 := Scf.iv c0_i32_28 c1_i32_30 k0_t6
  let c200_i32_32 : BitVec 32 := 200#32
  let v30 : BitVec 32 := Scalar.muli arg11 c200_i32_32
  let c80_i32 : BitVec 32 := 80#32
  let v57 : BitVec 32 := Scalar.addi v30 c80_i32
  let v58 : Index := Scalar.indexCast v57
  ![v58.toNat]

def k0_chk23 (v61 : IVec S16 32) : Prop :=
  (∀ a x, ((![v61] : Fin 1 → IVec S16 32) a x).toNat < S32768.size a)
theorem k0_idx23_inb : ∀ (v61 : IVec S16 32) (k0_hw23 : k0_chk23 v61), ∀ a x, ((![v61] : Fin 1 → IVec S16 32) a x).toNat < S32768.size a := fun v61 k0_hw23 => k0_hw23
def k0_off28 (k0_t6 : Fin k0_t6_loop.trips) : Fin 1 → Nat :=
  let c0_i32_28 : BitVec 32 := 0#32
  let c1_i32_30 : BitVec 32 := 1#32
  let arg11 : BitVec 32 := Scf.iv c0_i32_28 c1_i32_30 k0_t6
  let c200_i32_32 : BitVec 32 := 200#32
  let v30 : BitVec 32 := Scalar.muli arg11 c200_i32_32
  let c96_i32 : BitVec 32 := 96#32
  let v62 : BitVec 32 := Scalar.addi v30 c96_i32
  let v63 : Index := Scalar.indexCast v62
  ![v63.toNat]

def k0_chk24 (v66 : IVec S16 32) : Prop :=
  (∀ a x, ((![v66] : Fin 1 → IVec S16 32) a x).toNat < S32768.size a)
theorem k0_idx24_inb : ∀ (v66 : IVec S16 32) (k0_hw24 : k0_chk24 v66), ∀ a x, ((![v66] : Fin 1 → IVec S16 32) a x).toNat < S32768.size a := fun v66 k0_hw24 => k0_hw24
def k0_off29 (k0_t6 : Fin k0_t6_loop.trips) : Fin 1 → Nat :=
  let c0_i32_28 : BitVec 32 := 0#32
  let c1_i32_30 : BitVec 32 := 1#32
  let arg11 : BitVec 32 := Scf.iv c0_i32_28 c1_i32_30 k0_t6
  let c200_i32_32 : BitVec 32 := 200#32
  let v30 : BitVec 32 := Scalar.muli arg11 c200_i32_32
  let c112_i32 : BitVec 32 := 112#32
  let v67 : BitVec 32 := Scalar.addi v30 c112_i32
  let v68 : Index := Scalar.indexCast v67
  ![v68.toNat]

def k0_chk25 (v71 : IVec S16 32) : Prop :=
  (∀ a x, ((![v71] : Fin 1 → IVec S16 32) a x).toNat < S32768.size a)
theorem k0_idx25_inb : ∀ (v71 : IVec S16 32) (k0_hw25 : k0_chk25 v71), ∀ a x, ((![v71] : Fin 1 → IVec S16 32) a x).toNat < S32768.size a := fun v71 k0_hw25 => k0_hw25
def k0_off30 (k0_t6 : Fin k0_t6_loop.trips) : Fin 1 → Nat :=
  let c0_i32_28 : BitVec 32 := 0#32
  let c1_i32_30 : BitVec 32 := 1#32
  let arg11 : BitVec 32 := Scf.iv c0_i32_28 c1_i32_30 k0_t6
  let c200_i32_32 : BitVec 32 := 200#32
  let v30 : BitVec 32 := Scalar.muli arg11 c200_i32_32
  let c128_i32 : BitVec 32 := 128#32
  let v72 : BitVec 32 := Scalar.addi v30 c128_i32
  let v73 : Index := Scalar.indexCast v72
  ![v73.toNat]

def k0_chk26 (v76 : IVec S16 32) : Prop :=
  (∀ a x, ((![v76] : Fin 1 → IVec S16 32) a x).toNat < S32768.size a)
theorem k0_idx26_inb : ∀ (v76 : IVec S16 32) (k0_hw26 : k0_chk26 v76), ∀ a x, ((![v76] : Fin 1 → IVec S16 32) a x).toNat < S32768.size a := fun v76 k0_hw26 => k0_hw26
def k0_off31 (k0_t6 : Fin k0_t6_loop.trips) : Fin 1 → Nat :=
  let c0_i32_28 : BitVec 32 := 0#32
  let c1_i32_30 : BitVec 32 := 1#32
  let arg11 : BitVec 32 := Scf.iv c0_i32_28 c1_i32_30 k0_t6
  let c200_i32_32 : BitVec 32 := 200#32
  let v30 : BitVec 32 := Scalar.muli arg11 c200_i32_32
  let c144_i32 : BitVec 32 := 144#32
  let v77 : BitVec 32 := Scalar.addi v30 c144_i32
  let v78 : Index := Scalar.indexCast v77
  ![v78.toNat]

def k0_chk27 (v81 : IVec S16 32) : Prop :=
  (∀ a x, ((![v81] : Fin 1 → IVec S16 32) a x).toNat < S32768.size a)
theorem k0_idx27_inb : ∀ (v81 : IVec S16 32) (k0_hw27 : k0_chk27 v81), ∀ a x, ((![v81] : Fin 1 → IVec S16 32) a x).toNat < S32768.size a := fun v81 k0_hw27 => k0_hw27
def k0_off32 (k0_t6 : Fin k0_t6_loop.trips) : Fin 1 → Nat :=
  let c0_i32_28 : BitVec 32 := 0#32
  let c1_i32_30 : BitVec 32 := 1#32
  let arg11 : BitVec 32 := Scf.iv c0_i32_28 c1_i32_30 k0_t6
  let c200_i32_32 : BitVec 32 := 200#32
  let v30 : BitVec 32 := Scalar.muli arg11 c200_i32_32
  let c160_i32 : BitVec 32 := 160#32
  let v82 : BitVec 32 := Scalar.addi v30 c160_i32
  let v83 : Index := Scalar.indexCast v82
  ![v83.toNat]

def k0_chk28 (v86 : IVec S16 32) : Prop :=
  (∀ a x, ((![v86] : Fin 1 → IVec S16 32) a x).toNat < S32768.size a)
theorem k0_idx28_inb : ∀ (v86 : IVec S16 32) (k0_hw28 : k0_chk28 v86), ∀ a x, ((![v86] : Fin 1 → IVec S16 32) a x).toNat < S32768.size a := fun v86 k0_hw28 => k0_hw28
def k0_off33 (k0_t6 : Fin k0_t6_loop.trips) : Fin 1 → Nat :=
  let c0_i32_28 : BitVec 32 := 0#32
  let c1_i32_30 : BitVec 32 := 1#32
  let arg11 : BitVec 32 := Scf.iv c0_i32_28 c1_i32_30 k0_t6
  let c200_i32_32 : BitVec 32 := 200#32
  let v30 : BitVec 32 := Scalar.muli arg11 c200_i32_32
  let c176_i32 : BitVec 32 := 176#32
  let v87 : BitVec 32 := Scalar.addi v30 c176_i32
  let v88 : Index := Scalar.indexCast v87
  ![v88.toNat]

def k0_chk29 (v91 : IVec S16 32) : Prop :=
  (∀ a x, ((![v91] : Fin 1 → IVec S16 32) a x).toNat < S32768.size a)
theorem k0_idx29_inb : ∀ (v91 : IVec S16 32) (k0_hw29 : k0_chk29 v91), ∀ a x, ((![v91] : Fin 1 → IVec S16 32) a x).toNat < S32768.size a := fun v91 k0_hw29 => k0_hw29
def k0_off34 (k0_t6 : Fin k0_t6_loop.trips) : Fin 1 → Nat :=
  let c0_i32_28 : BitVec 32 := 0#32
  let c1_i32_30 : BitVec 32 := 1#32
  let arg11 : BitVec 32 := Scf.iv c0_i32_28 c1_i32_30 k0_t6
  let c200_i32_32 : BitVec 32 := 200#32
  let v30 : BitVec 32 := Scalar.muli arg11 c200_i32_32
  let c192_i32 : BitVec 32 := 192#32
  let v92 : BitVec 32 := Scalar.addi v30 c192_i32
  let v93 : Index := Scalar.indexCast v92
  ![v93.toNat]

def k0_chk30 (v96 : IVec S16 32) : Prop :=
  (∀ a x, ((![v96] : Fin 1 → IVec S16 32) a x).toNat < S32768.size a)
theorem k0_idx30_inb : ∀ (v96 : IVec S16 32) (k0_hw30 : k0_chk30 v96), ∀ a x, ((![v96] : Fin 1 → IVec S16 32) a x).toNat < S32768.size a := fun v96 k0_hw30 => k0_hw30
abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1024x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S1024x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x20 : Shape := ⟨2, ![16384, 20]⟩
abbrev S16384x200 : Shape := ⟨2, ![16384, 200]⟩
abbrev S1000x64 : Shape := ⟨2, ![1000, 64]⟩
abbrev S64x64 : Shape := ⟨2, ![64, 64]⟩
abbrev S64 : Shape := ⟨1, ![64]⟩
abbrev S_ : Shape := ⟨0, ![]⟩
abbrev S16384x20x1 : Shape := ⟨3, ![16384, 20, 1]⟩
abbrev S1 : Shape := ⟨1, ![1]⟩
abbrev S1x1x1 : Shape := ⟨3, ![1, 1, 1]⟩
abbrev S16384x20x64 : Shape := ⟨3, ![16384, 20, 64]⟩
abbrev S16384x64 : Shape := ⟨2, ![16384, 64]⟩
abbrev S1x64 : Shape := ⟨2, ![1, 64]⟩
abbrev S16384x200x1 : Shape := ⟨3, ![16384, 200, 1]⟩
abbrev S16384x200x64 : Shape := ⟨3, ![16384, 200, 64]⟩
abbrev S16384 : Shape := ⟨1, ![16384]⟩
abbrev S16384x1 : Shape := ⟨2, ![16384, 1]⟩

abbrev nBuf : Space → Nat
  | .hbm => 92
  | .vmem => 0
  | .smem => 0
  | _ => 0

abbrev bufTy : (tb : Table) → Fin (tcTables nBuf tb) → BufTy
  | .hbm, ⟨0, _⟩ => ⟨S16384x20, .i32⟩
  | .hbm, ⟨1, _⟩ => ⟨S16384x200, .i32⟩
  | .hbm, ⟨2, _⟩ => ⟨S1000x64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S_, .i32⟩
  | .hbm, ⟨8, _⟩ => ⟨S16384x20, .i32⟩
  | .hbm, ⟨9, _⟩ => ⟨S16384x20, .i1⟩
  | .hbm, ⟨10, _⟩ => ⟨S_, .i32⟩
  | .hbm, ⟨11, _⟩ => ⟨S16384x20, .i32⟩
  | .hbm, ⟨12, _⟩ => ⟨S16384x20, .i32⟩
  | .hbm, ⟨13, _⟩ => ⟨S16384x20, .i32⟩
  | .hbm, ⟨14, _⟩ => ⟨S16384x20x1, .i32⟩
  | .hbm, ⟨15, _⟩ => ⟨S1, .i32⟩
  | .hbm, ⟨16, _⟩ => ⟨S_, .i32⟩
  | .hbm, ⟨17, _⟩ => ⟨S16384x20x1, .i32⟩
  | .hbm, ⟨18, _⟩ => ⟨S16384x20x1, .i1⟩
  | .hbm, ⟨19, _⟩ => ⟨S1x1x1, .i32⟩
  | .hbm, ⟨20, _⟩ => ⟨S16384x20x1, .i32⟩
  | .hbm, ⟨21, _⟩ => ⟨S16384x20x1, .i1⟩
  | .hbm, ⟨22, _⟩ => ⟨S16384x20x1, .i1⟩
  | .hbm, ⟨23, _⟩ => ⟨S_, .i1⟩
  | .hbm, ⟨24, _⟩ => ⟨S16384x20, .i1⟩
  | .hbm, ⟨25, _⟩ => ⟨S16384x20x64, .f32⟩
  | .hbm, ⟨26, _⟩ => ⟨S16384x20x64, .i1⟩
  | .hbm, ⟨27, _⟩ => ⟨S_, .f32⟩
  | .hbm, ⟨28, _⟩ => ⟨S16384x20x64, .f32⟩
  | .hbm, ⟨29, _⟩ => ⟨S16384x20x64, .f32⟩
  | .hbm, ⟨30, _⟩ => ⟨S_, .f32⟩
  | .hbm, ⟨31, _⟩ => ⟨S16384x64, .f32⟩
  | .hbm, ⟨32, _⟩ => ⟨S64x64, .f32⟩
  | .hbm, ⟨33, _⟩ => ⟨S16384x64, .f32⟩
  | .hbm, ⟨34, _⟩ => ⟨S1x64, .f32⟩
  | .hbm, ⟨35, _⟩ => ⟨S16384x64, .f32⟩
  | .hbm, ⟨36, _⟩ => ⟨S16384x64, .f32⟩
  | .hbm, ⟨37, _⟩ => ⟨S16384x64, .f32⟩
  | .hbm, ⟨38, _⟩ => ⟨S_, .i32⟩
  | .hbm, ⟨39, _⟩ => ⟨S16384x200, .i32⟩
  | .hbm, ⟨40, _⟩ => ⟨S16384x200, .i1⟩
  | .hbm, ⟨41, _⟩ => ⟨S_, .i32⟩
  | .hbm, ⟨42, _⟩ => ⟨S16384x200, .i32⟩
  | .hbm, ⟨43, _⟩ => ⟨S16384x200, .i32⟩
  | .hbm, ⟨44, _⟩ => ⟨S16384x200, .i32⟩
  | .hbm, ⟨45, _⟩ => ⟨S16384x200x1, .i32⟩
  | .hbm, ⟨46, _⟩ => ⟨S1, .i32⟩
  | .hbm, ⟨47, _⟩ => ⟨S_, .i32⟩
  | .hbm, ⟨48, _⟩ => ⟨S16384x200x1, .i32⟩
  | .hbm, ⟨49, _⟩ => ⟨S16384x200x1, .i1⟩
  | .hbm, ⟨50, _⟩ => ⟨S1x1x1, .i32⟩
  | .hbm, ⟨51, _⟩ => ⟨S16384x200x1, .i32⟩
  | .hbm, ⟨52, _⟩ => ⟨S16384x200x1, .i1⟩
  | .hbm, ⟨53, _⟩ => ⟨S16384x200x1, .i1⟩
  | .hbm, ⟨54, _⟩ => ⟨S_, .i1⟩
  | .hbm, ⟨55, _⟩ => ⟨S16384x200, .i1⟩
  | .hbm, ⟨56, _⟩ => ⟨S16384x200x64, .f32⟩
  | .hbm, ⟨57, _⟩ => ⟨S16384x200x64, .i1⟩
  | .hbm, ⟨58, _⟩ => ⟨S_, .f32⟩
  | .hbm, ⟨59, _⟩ => ⟨S16384x200x64, .f32⟩
  | .hbm, ⟨60, _⟩ => ⟨S16384x200x64, .f32⟩
  | .hbm, ⟨61, _⟩ => ⟨S_, .f32⟩
  | .hbm, ⟨62, _⟩ => ⟨S16384x64, .f32⟩
  | .hbm, ⟨63, _⟩ => ⟨S64x64, .f32⟩
  | .hbm, ⟨64, _⟩ => ⟨S16384x64, .f32⟩
  | .hbm, ⟨65, _⟩ => ⟨S1x64, .f32⟩
  | .hbm, ⟨66, _⟩ => ⟨S16384x64, .f32⟩
  | .hbm, ⟨67, _⟩ => ⟨S16384x64, .f32⟩
  | .hbm, ⟨68, _⟩ => ⟨S16384x64, .f32⟩
  | .hbm, ⟨69, _⟩ => ⟨S16384x64, .f32⟩
  | .hbm, ⟨70, _⟩ => ⟨S_, .f32⟩
  | .hbm, ⟨71, _⟩ => ⟨S16384, .f32⟩
  | .hbm, ⟨72, _⟩ => ⟨S16384x64, .f32⟩
  | .hbm, ⟨73, _⟩ => ⟨S_, .f32⟩
  | .hbm, ⟨74, _⟩ => ⟨S16384, .f32⟩
  | .hbm, ⟨75, _⟩ => ⟨S16384, .f32⟩
  | .hbm, ⟨76, _⟩ => ⟨S16384x64, .f32⟩
  | .hbm, ⟨77, _⟩ => ⟨S_, .f32⟩
  | .hbm, ⟨78, _⟩ => ⟨S16384, .f32⟩
  | .hbm, ⟨79, _⟩ => ⟨S16384, .f32⟩
  | .hbm, ⟨80, _⟩ => ⟨S16384, .f32⟩
  | .hbm, ⟨81, _⟩ => ⟨S_, .f32⟩
  | .hbm, ⟨82, _⟩ => ⟨S16384, .f32⟩
  | .hbm, ⟨83, _⟩ => ⟨S16384, .f32⟩
  | .hbm, ⟨84, _⟩ => ⟨S16384, .f32⟩
  | .hbm, ⟨85, _⟩ => ⟨S16384x1, .f32⟩
  | .hbm, ⟨86, _⟩ => ⟨S_, .f32⟩
  | .hbm, ⟨87, _⟩ => ⟨S16384x1, .f32⟩
  | .hbm, ⟨88, _⟩ => ⟨S16384x1, .f32⟩
  | .hbm, ⟨89, _⟩ => ⟨S_, .f32⟩
  | .hbm, ⟨90, _⟩ => ⟨S16384x1, .f32⟩
  | .hbm, ⟨91, _⟩ => ⟨S16384x1, .f32⟩
  | _, _ => ⟨S16384x20, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v0 : Ref sig .tc := ⟨.hbm, 29, rfl⟩
abbrev main_cst : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_call1_c : Ref sig .tc := ⟨.hbm, 38, rfl⟩
abbrev main_call1_v0 : Ref sig .tc := ⟨.hbm, 39, rfl⟩
abbrev main_call1_v1 : Ref sig .tc := ⟨.hbm, 40, rfl⟩
abbrev main_call1_c_0 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_c_1 : Ref sig .tc := ⟨.hbm, 46, rfl⟩
abbrev main_call1_c_2 : Ref sig .tc := ⟨.hbm, 47, rfl⟩
abbrev main_call1_v6 : Ref sig .tc := ⟨.hbm, 48, rfl⟩
abbrev main_call1_v7 : Ref sig .tc := ⟨.hbm, 49, rfl⟩
abbrev main_call1_v8 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_c_3 : Ref sig .tc := ⟨.hbm, 54, rfl⟩
abbrev main_call1_v12 : Ref sig .tc := ⟨.hbm, 55, rfl⟩
abbrev main_call1_v13 : Ref sig .tc := ⟨.hbm, 56, rfl⟩
abbrev main_call1_v14 : Ref sig .tc := ⟨.hbm, 57, rfl⟩
abbrev main_call1_cst : Ref sig .tc := ⟨.hbm, 58, rfl⟩
abbrev main_call1_v15 : Ref sig .tc := ⟨.hbm, 59, rfl⟩
abbrev main_v8 : Ref sig .tc := ⟨.hbm, 60, rfl⟩
abbrev main_cst_0 : Ref sig .tc := ⟨.hbm, 61, rfl⟩
abbrev main_v9 : Ref sig .tc := ⟨.hbm, 62, rfl⟩
abbrev main_v10 : Ref sig .tc := ⟨.hbm, 63, rfl⟩
abbrev main_v11 : Ref sig .tc := ⟨.hbm, 64, rfl⟩
abbrev main_v12 : Ref sig .tc := ⟨.hbm, 65, rfl⟩
abbrev main_v13 : Ref sig .tc := ⟨.hbm, 66, rfl⟩
abbrev main_v14 : Ref sig .tc := ⟨.hbm, 67, rfl⟩
abbrev main_v15 : Ref sig .tc := ⟨.hbm, 68, rfl⟩
abbrev main_v16 : Ref sig .tc := ⟨.hbm, 69, rfl⟩
abbrev main_cst_1 : Ref sig .tc := ⟨.hbm, 70, rfl⟩
abbrev main_v17 : Ref sig .tc := ⟨.hbm, 71, rfl⟩
abbrev main_call2_v0 : Ref sig .tc := ⟨.hbm, 72, rfl⟩
abbrev main_call2_cst : Ref sig .tc := ⟨.hbm, 73, rfl⟩
abbrev main_call2_v1 : Ref sig .tc := ⟨.hbm, 74, rfl⟩
abbrev main_v18 : Ref sig .tc := ⟨.hbm, 75, rfl⟩
abbrev main_call3_v0 : Ref sig .tc := ⟨.hbm, 76, rfl⟩
abbrev main_call3_cst : Ref sig .tc := ⟨.hbm, 77, rfl⟩
abbrev main_call3_v1 : Ref sig .tc := ⟨.hbm, 78, rfl⟩
abbrev main_v19 : Ref sig .tc := ⟨.hbm, 79, rfl⟩
abbrev main_v20 : Ref sig .tc := ⟨.hbm, 80, rfl⟩
abbrev main_cst_2 : Ref sig .tc := ⟨.hbm, 81, rfl⟩
abbrev main_v21 : Ref sig .tc := ⟨.hbm, 82, rfl⟩
abbrev main_v22 : Ref sig .tc := ⟨.hbm, 83, rfl⟩
abbrev main_v23 : Ref sig .tc := ⟨.hbm, 84, rfl⟩
abbrev main_v24 : Ref sig .tc := ⟨.hbm, 85, rfl⟩
abbrev main_cst_3 : Ref sig .tc := ⟨.hbm, 86, rfl⟩
abbrev main_v25 : Ref sig .tc := ⟨.hbm, 87, rfl⟩
abbrev main_v26 : Ref sig .tc := ⟨.hbm, 88, rfl⟩
abbrev main_cst_4 : Ref sig .tc := ⟨.hbm, 89, rfl⟩
abbrev main_v27 : Ref sig .tc := ⟨.hbm, 90, rfl⟩
abbrev main_v28 : Ref sig .tc := ⟨.hbm, 91, rfl⟩

abbrev nD : Nat := 1
abbrev τ : Topo := Topo.v7x

variable {F : FTy → Type} [FloatOps F]
-- ==== Proof.Counts.lean ====
/-
  The counting mathematics: what a sixteen-lane scatter leaves of a table of counts, over any float values. A table
  `cnt LQ T p` is what the first `p` tokens of a chunk leave of the zero table, each token adding one at its own word; a
  scatter of ones advances `p` by the lanes its mask sets, and the scatter of zeros at the same words takes the table
  back to zero (`clr`).
-/
module

public import proofs.«01_k».proof.Defs
public import proofs.«01_k».proof.Proof.Gen.KernelIdeal
public import proofs.«01_k».proof.Proof.Gen.KernelIdeal.Skeleton

@[expose] public section

noncomputable section

namespace Cert.Proof.Counts

open Cert.KernelIdeal Cert.KernelIdeal.Gen
open Idealize.ShloMosaic

variable {F : FTy → Type} [FloatOps F]

/-- A fold over all lanes, by its value after each number of lanes. -/
theorem foldl_lanes {α : Type} : ∀ (m : ℕ) (G : ℕ → α) (step : α → Fin m → α) (_ : ∀ k : Fin m, step (G k.val) k = G (k.val + 1)),
    (List.finRange m).foldl step (G 0) = G m
  | 0, _, _, _ => rfl
  | m + 1, G, step, h => by
    rw [List.finRange_succ_last, List.foldl_append, List.foldl_map]
    rw [foldl_lanes m G (fun g k => step g k.castSucc) fun k => h k.castSucc]
    exact h (Fin.last m)

/-- The kernel's zero. -/
def zero : F .f32 := Scalar.ofBits .f32 0x00000000#32
/-- One more, as the scatter adds it. -/
def inc (y : F .f32) : F .f32 := FloatOps.idxAddf y (Scalar.ofBits .f32 0x3F800000#32)

/-- The word of the count table that token `w` of a chunk names: row `w / LQ`, the token's column. -/
def tgt (LQ : ℕ) (T : ℕ → ℕ) (w : ℕ) : ℕ := (w / LQ) * 1024 + T w

/-- The table after the first `p` tokens. -/
def cnt (LQ : ℕ) (T : ℕ → ℕ) (p : ℕ) : FVec F S32768 .f32 :=
  fun j => (inc (F := F))^[Nat.count (fun w => tgt LQ T w = (j 0).val) p] zero

/-- The table of `N` tokens with the words of the first `p` tokens back at zero. -/
def clr (LQ : ℕ) (T : ℕ → ℕ) (N p : ℕ) : FVec F S32768 .f32 :=
  fun j => if ∃ w < p, tgt LQ T w = (j 0).val then zero else cnt LQ T N j

theorem cnt_zero (LQ : ℕ) (T : ℕ → ℕ) : cnt (F := F) LQ T 0 = fun _ => zero := by
  funext j; simp [cnt]

theorem clr_zero (LQ : ℕ) (T : ℕ → ℕ) (N : ℕ) : clr (F := F) LQ T N 0 = cnt LQ T N := by
  funext j; simp [clr]

theorem clr_all (LQ : ℕ) (T : ℕ → ℕ) (N : ℕ) : clr (F := F) LQ T N N = fun _ => zero := by
  funext j
  unfold clr
  split
  · rfl
  · next h =>
    have h0 : Nat.count (fun w => tgt LQ T w = (j 0).val) N = 0 := by
      rw [Nat.count_eq_card_filter_range, Finset.card_eq_zero, Finset.filter_eq_empty_iff]
      intro w hw he
      exact h ⟨w, Finset.mem_range.1 hw, he⟩
    simp [cnt, h0]

theorem eqAt (j : S32768.Idx) (n : ℕ) : (∀ a, (j a).val = n) ↔ (j 0).val = n :=
  ⟨fun h => h 0, fun h a => by rw [Fin.eq_zero a]; exact h⟩

/-- A scatter of ones over the set lanes. -/
theorem storeIdx_cnt {LQ p n : ℕ} {T : ℕ → ℕ} {v : IVec S16 32} {val : FVec F S16 .f32} {mask : IVec S16 1} (hn : n ≤ 16)
    (hval : ∀ x, val x = Scalar.ofBits .f32 0x3F800000#32)
    (hmask : ∀ k : Fin 16, mask (Shape.ofLane (d := ![16]) k) = 1 ↔ k.val < n)
    (hidx : ∀ k : Fin 16, k.val < n → (v (Shape.ofLane (d := ![16]) k)).toNat = tgt LQ T (p + k.val))
    (h : ∀ a x, ((![v] : Fin 1 → IVec S16 32) a x).toNat < S32768.size a) :
    storeIdx (F := F) (s := S32768) (e := .f32) (d := ![16]) (cnt LQ T p) ![v] val mask true h = cnt LQ T (p + n) := by
  unfold storeIdx
  have key : ∀ step : FVec F S32768 .f32 → Fin 16 → FVec F S32768 .f32, (∀ k : Fin 16, step (cnt (F := F) LQ T (p + min k.val n)) k = cnt (F := F) LQ T (p + min (k.val + 1) n)) →
      (List.finRange 16).foldl step (cnt (F := F) LQ T p) = cnt (F := F) LQ T (p + n) := fun step hs => by
    have := foldl_lanes 16 (fun k => cnt (F := F) LQ T (p + min k n)) step hs
    rwa [Nat.zero_min, Nat.add_zero, Nat.min_eq_right hn] at this
  exact key _ (by
      intro k
      dsimp only
      by_cases hk : k.val < n
      · rw [if_pos ((hmask k).2 hk), Nat.min_eq_left (by omega), Nat.min_eq_left (by omega)]
        funext j
        have hi : ((idxAt (s := S32768) (t := ⟨1, ![16]⟩) ![v] h (Shape.ofLane (d := ![16]) k)) 0).val = tgt LQ T (p + k.val) := hidx k hk
        simp only [↓reduceIte, hval, Elt.idxAdd_f32]
        have hc : (∀ a, (j a).val = ((idxAt (s := S32768) (t := ⟨1, ![16]⟩) ![v] h (Shape.ofLane (d := ![16]) k)) a).val)
            ↔ (j 0).val = tgt LQ T (p + k.val) :=
          ⟨fun h' => (h' 0).trans hi, fun h' a => by rw [Fin.eq_zero a]; exact h'.trans hi.symm⟩
        by_cases hj : (j 0).val = tgt LQ T (p + k.val)
        · rw [if_pos (hc.2 hj)]
          unfold cnt
          rw [hi, ← Nat.add_assoc, Nat.count_succ, if_pos hj.symm, Function.iterate_succ_apply', hj]
          rfl
        · rw [if_neg (fun h' => hj (hc.1 h'))]
          unfold cnt
          rw [← Nat.add_assoc, Nat.count_succ, if_neg (fun h' => hj h'.symm), Nat.add_zero]
      · rw [if_neg (fun h' => hk ((hmask k).1 h')), Nat.min_eq_right (by omega), Nat.min_eq_right (by omega)])

/-- A scatter of zeros over the set lanes. -/
theorem storeIdx_clr {LQ N p n : ℕ} {T : ℕ → ℕ} {v : IVec S16 32} {val : FVec F S16 .f32} {mask : IVec S16 1} (hn : n ≤ 16)
    (hval : ∀ x, val x = zero)
    (hmask : ∀ k : Fin 16, mask (Shape.ofLane (d := ![16]) k) = 1 ↔ k.val < n)
    (hidx : ∀ k : Fin 16, k.val < n → (v (Shape.ofLane (d := ![16]) k)).toNat = tgt LQ T (p + k.val))
    (h : ∀ a x, ((![v] : Fin 1 → IVec S16 32) a x).toNat < S32768.size a) :
    storeIdx (F := F) (s := S32768) (e := .f32) (d := ![16]) (clr LQ T N p) ![v] val mask false h = clr LQ T N (p + n) := by
  unfold storeIdx
  have key : ∀ step : FVec F S32768 .f32 → Fin 16 → FVec F S32768 .f32, (∀ k : Fin 16, step (clr (F := F) LQ T N (p + min k.val n)) k = clr (F := F) LQ T N (p + min (k.val + 1) n)) →
      (List.finRange 16).foldl step (clr (F := F) LQ T N p) = clr (F := F) LQ T N (p + n) := fun step hs => by
    have := foldl_lanes 16 (fun k => clr (F := F) LQ T N (p + min k n)) step hs
    rwa [Nat.zero_min, Nat.add_zero, Nat.min_eq_right hn] at this
  exact key _ (by
      intro k
      dsimp only
      by_cases hk : k.val < n
      · rw [if_pos ((hmask k).2 hk), Nat.min_eq_left (by omega), Nat.min_eq_left (by omega)]
        funext j
        have hi : ((idxAt (s := S32768) (t := ⟨1, ![16]⟩) ![v] h (Shape.ofLane (d := ![16]) k)) 0).val = tgt LQ T (p + k.val) := hidx k hk
        simp only [Bool.false_eq_true, ↓reduceIte, hval]
        have hc : (∀ a, (j a).val = ((idxAt (s := S32768) (t := ⟨1, ![16]⟩) ![v] h (Shape.ofLane (d := ![16]) k)) a).val)
            ↔ (j 0).val = tgt LQ T (p + k.val) :=
          ⟨fun h' => (h' 0).trans hi, fun h' a => by rw [Fin.eq_zero a]; exact h'.trans hi.symm⟩
        have he : (∃ w < p + (k.val + 1), tgt LQ T w = (j 0).val) ↔ (j 0).val = tgt LQ T (p + k.val) ∨ ∃ w < p + k.val, tgt LQ T w = (j 0).val := by
          constructor
          · rintro ⟨w, hw, e⟩
            by_cases hwk : w = p + k.val
            · exact Or.inl (hwk ▸ e.symm)
            · exact Or.inr ⟨w, by omega, e⟩
          · rintro (e | ⟨w, hw, e⟩)
            · exact ⟨p + k.val, by omega, e.symm⟩
            · exact ⟨w, by omega, e⟩
        by_cases hj : (j 0).val = tgt LQ T (p + k.val)
        · rw [if_pos (hc.2 hj)]
          unfold clr
          rw [if_pos (he.2 (Or.inl hj))]
        · rw [if_neg (fun h' => hj (hc.1 h'))]
          unfold clr
          simp only [he, hj, false_or]
      · rw [if_neg (fun h' => hk ((hmask k).1 h')), Nat.min_eq_right (by omega), Nat.min_eq_right (by omega)])

/-! ## The index vectors, the masks, the words of a token scratch -/

/-- Word `w` of a token scratch, as a natural number (`0` past its end). -/
def wd {n : ℕ} (f : (⟨1, ![n]⟩ : Shape).Idx → BitVec 32) (w : ℕ) : ℕ :=
  if h : w < n then (f fun a => ⟨w, by rw [Fin.eq_zero a]; exact h⟩).toNat else 0

theorem iv_eq (k : ℕ) : Scf.iv 0#32 1#32 k = BitVec.ofNat 32 k := by
  simp [Scf.iv]

theorem row_eq (k : ℕ) : Scalar.muli (Scf.iv 0#32 1#32 k) 1024#32 = BitVec.ofNat 32 (k * 1024) := by
  rw [iv_eq]
  simp only [Scalar.muli, IntOp.muli]
  exact (BitVec.ofNat_mul _ _).symm

theorem idx_toNat {e : ℕ} (he : e < 32) {b : BitVec 32} (hb : b.toNat < 1000) : (BitVec.ofNat 32 (e * 1024) + b).toNat = e * 1024 + b.toNat := by
  rw [BitVec.toNat_add, BitVec.toNat_ofNat]
  omega

theorem ones_mask (n : ℕ) (hn : n = 16) (k : Fin 16) : ((fun _ => 1#1 : IVec S16 1) (Shape.ofLane (d := ![16]) k)) = 1 ↔ k.val < n := by
  subst hn; simp

theorem mask5 (k : Fin 16) : k0_pay5 (Shape.ofLane (d := ![16]) k) = 1 ↔ k.val < 4 := by
  revert k; decide +kernel

theorem mask8 (k : Fin 16) : k0_pay8 (Shape.ofLane (d := ![16]) k) = 1 ↔ k.val < 8 := by
  revert k; decide +kernel

theorem mask29 (k : Fin 16) : k0_pay29 (iota .scVector S16 32 [0] iota_S16_d0_w32_scVector) (Shape.ofLane (d := ![16]) k) = 1 ↔ k.val < 4 := by
  revert k; decide +kernel

theorem mask32 (k : Fin 16) : k0_pay32 (iota .scVector S16 32 [0] iota_S16_d0_w32_scVector) (Shape.ofLane (d := ![16]) k) = 1 ↔ k.val < 8 := by
  revert k; decide +kernel

end Cert.Proof.Counts
-- ==== Proof.Setup.lean ====
/-
  The program as the SparseCore launch theorem sees it: the body table, the ghost state (the handshakes' rounds, the
  TensorCore pipeline's rounds, the transfers' counters), and how a buffer is held in the proofs of the task
  (`Has`: a memref owned whole, at the vector it reads as).
-/
module

public import proofs.«01_k».proof.Defs
public import proofs.«01_k».proof.Proof.Counts
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Run

open Cert.KernelIdeal Cert.KernelIdeal.Gen Cert.Proof.Counts

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds, the pipeline's rounds, the transfers' counters. -/
abbrev UH : Type := URounds (GSem nD τ sig) ℕ
abbrev UP : Type := URounds (GSem nD τ sig) Unit
abbrev UU : Type := (UH × UP) × Counters

local notation "𝕄" => MT nD τ sig (HIx 1) (Elt F) ℕ UU ℕ

abbrev EHP : Emb (UH × UP) (MT nD τ sig (HIx 1) (Elt F) ℕ UU ℕ) := embL
abbrev EH : Emb UH (MT nD τ sig (HIx 1) (Elt F) ℕ UU ℕ) := (Emb.inl : Emb UH (UH × UP)).trans EHP
abbrev EP : Emb UP (MT nD τ sig (HIx 1) (Elt F) ℕ UU ℕ) := (Emb.inr : Emb UP (UH × UP)).trans EHP

instance EH_lands : (EH (F := F)).LandsIn (upEmb : UEmb _ 𝕄) := by infer_instance
instance EP_lands : (EP (F := F)).LandsIn (upEmb : UEmb _ 𝕄) := by infer_instance

/-! ## A memref held whole at the vector it reads as -/

section Held

variable [FloatOps F] {sp : Space} {s : Shape} {e : EltTy} {d : Dev nD} {c : Fin τ.nSC} {i : Fin τ.nSub}

/-- Thread `thr` holds memref `m`'s elements outright, reading as `x`. -/
def Has (thr : Thread nD τ) (m : Memref sig thr.2.kind sp s e) (x : Vec F s e) : sProp 𝕄 :=
  iprop(∃ f, ⌜m.view.read (Elt F) f = x⌝ ∗ (m.view.loc thr ↦[m.view.set]{fullShare} f))

theorem has_intro (thr : Thread nD τ) (m : Memref sig thr.2.kind sp s e) (f : Buf (Elt F) (m.view.loc thr)) :
    (m.view.loc thr ↦[m.view.set]{fullShare} f : sProp 𝕄) ⊢ Has thr m (m.view.read (Elt F) f) := by
  unfold Has; iintro H; iexists f; isplitr; · ipureintro; rfl
  iexact H

omit [FloatOps F] in
theorem read_whole_access {κ : Kind} (m : Memref sig κ sp s e) (f : m.view.ty.Contents (Elt F)) :
    (m.access (.whole s)).read (Elt F) f = m.view.read (Elt F) f := by
  funext x
  show m.view.read (Elt F) f ((Rect.whole s).emb x) = _
  rw [Rect.emb_whole_apply]

theorem set_whole_access {κ : Kind} (m : Memref sig κ sp s e) : (m.access (.whole s)).set = m.view.set := by
  show (m.view.slice (.whole s)).set = _
  ext j
  simp only [View.set, Finset.mem_map, Finset.mem_univ, true_and]
  constructor
  · rintro ⟨x, rfl⟩; exact ⟨(Rect.whole s).emb x, rfl⟩
  · rintro ⟨x, rfl⟩
    exact ⟨x, congrArg m.view.emb (Rect.emb_whole_apply s x)⟩

omit [FloatOps F] in
theorem pointsTo_set_eq {l : Loc nD τ sig} {A B : Finset (Idx l)} {q : PosShare TreeShare} {f : Buf (Elt F) l} (h : A = B) :
    (l ↦[A]{q} f : sProp 𝕄) ⊢ l ↦[B]{q} f := by subst h; exact .rfl

variable {Λ : Labels} {defs : Defs nD τ sig (Elt F) Λ} {𝒱 : Variants} {thr : Thread nD τ} {bd : Option 𝒱.V} {E : Set ℕ} {α : Type}

/-- A finished program meets its postcondition. -/
theorem wp_done {Q : α → sProp 𝕄} {a : α} : Q a ⊢ wp frame (wpE defs 𝒱 thr bd) E (.ret a) Q := by
  rw [wp_ret]
  iintro H
  imodintro
  iexact H

/-- A load of a held memref, and the check of what is computed from it. -/
theorem wp_load_chk {Q : α → sProp 𝕄} {st : Shape} {tok : Memref sig thr.2.kind .vmem st .i32}
    {r : Rect st} {hl : tok.view.LoadsAt r.toLoadRect} {P : (r.shape.Idx → BitVec 32) → Prop} {dP : ∀ w, Decidable (P w)}
    {k : (w : r.shape.Idx → BitVec 32) → PLift (P w) → Prog (TpuEff nD τ sig (Elt F) Λ thr.2) α}
    (X : Vec F st .i32) (hP : P (fun x => X (r.emb x))) :
    (Has thr tok X)
      ⊢ iprop((Has thr tok X -∗ wp frame (wpE defs 𝒱 thr bd) E (k (fun x => X (r.emb x)) ⟨hP⟩) Q)
        -∗ wp frame (wpE defs 𝒱 thr bd) E (.op (.load tok r.toLoadRect hl) fun w => .op (.assume (P w) (dP w)) fun h => k w h) Q) := by
  unfold Has
  iintro ⟨%ft, %ht, Ht⟩ Hk
  iapply (wp_load 𝒱 thr bd E (m := tok) (S := tok.view.set) (View.setOn_subset_set _ _)) $$ Ht
  iintro Ht
  have hw : (tok.view.readAt (Elt F) r.toLoadRect ft) = fun x => X (r.emb x) := by
    funext x; rw [← ht]; rfl
  rw [hw, wp_assume_of _ _ _ _ hP]
  iapply Hk
  iexists ft; isplitr; · ipureintro; exact ht
  iexact Ht

/-- A scatter into a held memref. -/
theorem wp_scatter {Q : α → sProp 𝕄} {base : Memref sig thr.2.kind .vmem S32768 .f32}
    {v : IVec S16 32} {hin : ∀ a x, ((![v] : Fin 1 → IVec S16 32) a x).toNat < S32768.size a} {val : FVec F S16 .f32} {mask : IVec S16 1} {add : Bool}
    {hs : (base.access (.whole S32768)).Stores Finset.univ}
    {k : PUnit.{1} → Prog (TpuEff nD τ sig (Elt F) Λ thr.2) α}
    (G G' : FVec F S32768 .f32)
    (hG : ∀ h, storeIdx (F := F) (s := S32768) (e := .f32) (d := ![16]) G ![v] val mask add h = G') :
    (Has thr base G)
      ⊢ iprop((Has thr base G' -∗ wp frame (wpE defs 𝒱 thr bd) E (k ⟨⟩) Q)
        -∗ wp frame (wpE defs 𝒱 thr bd) E (SparseCore.vectorStoreIdx base ![v] val mask add hin hs >>= k) Q) := by
  unfold Has
  iintro ⟨%fb, %hb, Hb⟩ Hk
  have hset : (base.access (.whole S32768)).set = base.view.set := set_whole_access base
  ihave Hb' := (pointsTo_set_eq hset.symm) $$ Hb
  iapply (SparseCore.wp_vectorStoreIdx 𝒱 thr bd E (base := base) (f := fb)) $$ Hb'
  iintro Hb
  iapply Hk
  ihave Hb' := (pointsTo_set_eq hset) $$ Hb
  iexists ((base.access (.whole S32768)).write (Elt F) fb (storeIdx ((base.access (.whole S32768)).read (Elt F) fb) ![v] val mask add hin) Finset.univ)
  isplitr
  · ipureintro
    rw [← read_whole_access, View.read_write_univ, read_whole_access, hb]
    exact hG _
  · iexact Hb'

/-- One group of a counting loop: a load of sixteen tokens, the check of the words they name, the scatter. -/
theorem wp_group {Q : α → sProp 𝕄} {st : Shape} {tok : Memref sig thr.2.kind .vmem st .i32} {base : Memref sig thr.2.kind .vmem S32768 .f32}
    {r : Rect st} {hl : tok.view.LoadsAt r.toLoadRect} {ix : (r.shape.Idx → BitVec 32) → IVec S16 32} {P : (r.shape.Idx → BitVec 32) → Prop} {dP : ∀ w, Decidable (P w)}
    {hin : ∀ w, P w → ∀ a x, ((![ix w] : Fin 1 → IVec S16 32) a x).toNat < S32768.size a} {val : FVec F S16 .f32} {mask : IVec S16 1} {add : Bool}
    {hs : (base.access (.whole S32768)).Stores Finset.univ}
    {k : (w : r.shape.Idx → BitVec 32) → PLift (P w) → PUnit.{1} → Prog (TpuEff nD τ sig (Elt F) Λ thr.2) α}
    (X : Vec F st .i32) (G G' : FVec F S32768 .f32) (hP : P (fun x => X (r.emb x)))
    (hG : ∀ h, storeIdx (F := F) (s := S32768) (e := .f32) (d := ![16]) G ![ix fun x => X (r.emb x)] val mask add h = G') :
    iprop(Has thr tok X ∗ Has thr base G)
      ⊢ iprop((∀ w h, (Has thr tok X ∗ Has thr base G') -∗ wp frame (wpE defs 𝒱 thr bd) E (k w h ⟨⟩) Q)
        -∗ wp frame (wpE defs 𝒱 thr bd) E (.op (.load tok r.toLoadRect hl) fun w => .op (.assume (P w) (dP w)) fun h =>
            SparseCore.vectorStoreIdx base ![ix w] val mask add (hin w h.down) hs >>= k w h) Q) := by
  iintro ⟨Ht, Hb⟩ Hk
  iapply (wp_load_chk (thr := thr) (tok := tok) (r := r) (P := P) X hP) $$ Ht
  iintro Ht
  iapply (wp_scatter (thr := thr) (base := base) G G' hG) $$ Hb
  iintro Hb
  iapply Hk
  isplitl [Ht] <;> iassumption

end Held

end Cert.Proof.Run
end
-- ==== Proof.Groups.lean ====
/-
  The counting and clearing loops of the task, a trip at a time: each group of a trip loads sixteen tokens, checks the
  words they name, and scatters (adding ones, or storing zeros) at those words. A trip takes the table of counts of the
  first `e` rows' tokens to that of the first `e + 1`.
-/
module

public import proofs.«01_k».proof.Proof.Setup

@[expose] public section

noncomputable section

namespace Cert.Proof.Run

open Cert.KernelIdeal Cert.KernelIdeal.Gen Cert.Proof.Counts

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section Group

variable {Λ : Labels} {defs : Defs nD τ sig (Elt F) Λ} {𝒱 : Variants} {bd : Option 𝒱.V} {E : Set ℕ} {α : Type} {N : ℕ}

/-- A token's word lies inside the table. -/
theorem chk_of {e : ℕ} {ix : IVec S16 32} {w : S16.Idx → BitVec 32} (he : e < 32) (hw : ∀ x, (w x).toNat < 1000)
    (hix : ∀ x, ix x = BitVec.ofNat 32 (e * 1024) + w x) : ∀ a x, ((![ix] : Fin 1 → IVec S16 32) a x).toNat < S32768.size a := by
  intro a x
  rw [Fin.eq_zero a]
  show (ix x).toNat < 32768
  rw [hix, idx_toNat he (hw x)]
  have := hw x
  omega

/-- Lane `k` of a group loaded at word `p` of row `e` names the word's target. -/
theorem lane_tgt {LQ e o p : ℕ} {off : Fin 1 → ℕ} {hb : ∀ a, off a + S16.size a ≤ (⟨1, ![N]⟩ : Shape).size a} {X : (⟨1, ![N]⟩ : Shape).Idx → BitVec 32}
    {ix : IVec S16 32} (he : e < 32) (hX : ∀ x, (X x).toNat < 1000)
    (hix : ∀ x, ix x = BitVec.ofNat 32 (e * 1024) + X ((Rect.unit (s := ⟨1, ![N]⟩) off S16.size hb).emb x))
    (hoff : off = ![p]) (hp : p = LQ * e + o) {n : ℕ} (hon : o + n ≤ LQ) (k : Fin 16) (hk : k.val < n) :
    (ix (Shape.ofLane (d := ![16]) k)).toNat = tgt LQ (wd X) (p + k.val) := by
  subst hoff
  have hN : p + 16 ≤ N := hb 0
  rw [hix, idx_toNat he (hX _)]
  unfold tgt wd
  have hdiv : (p + k.val) / LQ = e := by
    rw [hp, Nat.add_assoc, Nat.mul_add_div (by omega), Nat.div_eq_of_lt (by omega), Nat.add_zero]
  rw [hdiv, dif_pos (by omega)]
  congr 2
  refine congrArg X (funext fun a => Fin.ext ?_)
  rw [Fin.eq_zero a]
  show p + _ * k.val = _
  simp [Rect.unit]

theorem group_cnt {d : Dev nD} {c : Fin τ.nSC} {i : Fin τ.nSub} {Q : α → sProp 𝕄} {tok : Memref sig .scVector .vmem ⟨1, ![N]⟩ .i32} {base : Memref sig .scVector .vmem S32768 .f32}
    {off : Fin 1 → ℕ} {hb : ∀ a, off a + S16.size a ≤ (⟨1, ![N]⟩ : Shape).size a}
    {hl : tok.view.LoadsAt (Rect.unit (s := ⟨1, ![N]⟩) off S16.size hb).toLoadRect} {ix : (S16.Idx → BitVec 32) → IVec S16 32} {P : (S16.Idx → BitVec 32) → Prop} {dP : ∀ w, Decidable (P w)}
    {val : FVec F S16 .f32} {mask : IVec S16 1}
    {hs : (base.access (.whole S32768)).Stores Finset.univ}
    {k : (w : S16.Idx → BitVec 32) → PLift (P w) → PUnit.{1} → Prog (TpuEff nD τ sig (Elt F) Λ (V d c i).2) α}
    (X : Vec F ⟨1, ![N]⟩ .i32) (LQ e o n p p' : ℕ) (hoff : off = ![p]) (hp : p = LQ * e + o) (hp' : p' = p + n) (hon : o + n ≤ LQ) (hn : n ≤ 16) (he : e < 32)
    (hX : ∀ x, (X x : BitVec 32).toNat < 1000) (hix : ∀ w x, ix w x = BitVec.ofNat 32 (e * 1024) + w x)
    (hP : ∀ w, (∀ a x, ((![ix w] : Fin 1 → IVec S16 32) a x).toNat < S32768.size a) → P w)
    (hin : ∀ w, P w → ∀ a x, ((![ix w] : Fin 1 → IVec S16 32) a x).toNat < S32768.size a)
    (hval : ∀ x, val x = Scalar.ofBits .f32 0x3F800000#32) (hmask : ∀ k : Fin 16, mask (Shape.ofLane (d := ![16]) k) = 1 ↔ k.val < n) :
    iprop(Has (V d c i) tok X ∗ Has (V d c i) base (cnt LQ (wd X) p))
      ⊢ iprop((∀ w h, (Has (V d c i) tok X ∗ Has (V d c i) base (cnt LQ (wd X) p')) -∗ wp frame (wpE defs 𝒱 (V d c i) bd) E (k w h ⟨⟩) Q)
        -∗ wp frame (wpE defs 𝒱 (V d c i) bd) E (.op (.load tok (Rect.unit (s := ⟨1, ![N]⟩) off S16.size hb).toLoadRect hl) fun (w : S16.Idx → BitVec 32) => .op (.assume (P w) (dP w)) fun h =>
            SparseCore.vectorStoreIdx base ![ix w] val mask true (hin w h.down) hs >>= k w h) Q) := by
  subst hp'
  refine wp_group (thr := V d c i) (tok := tok) (base := base) (r := Rect.unit (s := ⟨1, ![N]⟩) off S16.size hb) (ix := ix) (P := P) X _ _ (hP _ (chk_of he (fun _ => hX _) (hix _))) fun h => ?_
  exact storeIdx_cnt hn hval hmask (fun k hk => lane_tgt he hX (hix _) hoff hp hon k hk) h

theorem group_clr {d : Dev nD} {c : Fin τ.nSC} {i : Fin τ.nSub} {Q : α → sProp 𝕄} {tok : Memref sig .scVector .vmem ⟨1, ![N]⟩ .i32} {base : Memref sig .scVector .vmem S32768 .f32}
    {off : Fin 1 → ℕ} {hb : ∀ a, off a + S16.size a ≤ (⟨1, ![N]⟩ : Shape).size a}
    {hl : tok.view.LoadsAt (Rect.unit (s := ⟨1, ![N]⟩) off S16.size hb).toLoadRect} {ix : (S16.Idx → BitVec 32) → IVec S16 32} {P : (S16.Idx → BitVec 32) → Prop} {dP : ∀ w, Decidable (P w)}
    {val : FVec F S16 .f32} {mask : IVec S16 1}
    {hs : (base.access (.whole S32768)).Stores Finset.univ}
    {k : (w : S16.Idx → BitVec 32) → PLift (P w) → PUnit.{1} → Prog (TpuEff nD τ sig (Elt F) Λ (V d c i).2) α}
    (X : Vec F ⟨1, ![N]⟩ .i32) (M LQ e o n p p' : ℕ) (hoff : off = ![p]) (hp : p = LQ * e + o) (hp' : p' = p + n) (hon : o + n ≤ LQ) (hn : n ≤ 16) (he : e < 32)
    (hX : ∀ x, (X x : BitVec 32).toNat < 1000) (hix : ∀ w x, ix w x = BitVec.ofNat 32 (e * 1024) + w x)
    (hP : ∀ w, (∀ a x, ((![ix w] : Fin 1 → IVec S16 32) a x).toNat < S32768.size a) → P w)
    (hin : ∀ w, P w → ∀ a x, ((![ix w] : Fin 1 → IVec S16 32) a x).toNat < S32768.size a)
    (hval : ∀ x, val x = zero) (hmask : ∀ k : Fin 16, mask (Shape.ofLane (d := ![16]) k) = 1 ↔ k.val < n) :
    iprop(Has (V d c i) tok X ∗ Has (V d c i) base (clr LQ (wd X) M p))
      ⊢ iprop((∀ w h, (Has (V d c i) tok X ∗ Has (V d c i) base (clr LQ (wd X) M p')) -∗ wp frame (wpE defs 𝒱 (V d c i) bd) E (k w h ⟨⟩) Q)
        -∗ wp frame (wpE defs 𝒱 (V d c i) bd) E (.op (.load tok (Rect.unit (s := ⟨1, ![N]⟩) off S16.size hb).toLoadRect hl) fun (w : S16.Idx → BitVec 32) => .op (.assume (P w) (dP w)) fun h =>
            SparseCore.vectorStoreIdx base ![ix w] val mask false (hin w h.down) hs >>= k w h) Q) := by
  subst hp'
  refine wp_group (thr := V d c i) (tok := tok) (base := base) (r := Rect.unit (s := ⟨1, ![N]⟩) off S16.size hb) (ix := ix) (P := P) X _ _ (hP _ (chk_of he (fun _ => hX _) (hix _))) fun h => ?_
  exact storeIdx_clr hn hval hmask (fun k hk => lane_tgt he hX (hix _) hoff hp hon k hk) h

end Group

/-! ## The four loops' trips -/

/-- A row's words, added to each lane. -/
theorem ix_row (k : ℕ) (w : S16.Idx → BitVec 32) (x : S16.Idx) :
    addi (broadcast S16 (Scalar.muli (Scf.iv 0#32 1#32 k) 1024#32)) w x = BitVec.ofNat 32 (k * 1024) + w x := by
  rw [row_eq]; rfl

/-- The tile the task's coordinates name. -/
abbrev thrOf (d : Dev nD) (i : grid0.Coords) : Thread nD τ := V d ((i 0).castLE hcore0) ((i 1).castLE hsub0)

/-- The lanes' numbers. -/
abbrev lanes : IVec S16 32 := iota .scVector S16 32 [0] iota_S16_d0_w32_scVector

section Trips

variable (d : Dev nD) (i : grid0.Coords)
  (arg2 : Memref sig .scVector .hbm S327680 .i32) (harg2 : arg2.IsWhole) (arg3 : Memref sig .scVector .hbm S3276800 .i32) (harg3 : arg3.IsWhole)
  (arg4 : Memref sig .scVector .hbm S16777216 .f32) (harg4 : arg4.IsWhole) (arg5 : Memref sig .scVector .hbm S16777216 .f32) (harg5 : arg5.IsWhole)
  (arg6 : Memref sig .scVector .vmem S656 .i32) (harg6 : arg6.IsWhole) (arg7 : Memref sig .scVector .vmem S6416 .i32) (harg7 : arg7.IsWhole)
  (arg8 : Memref sig .scVector .vmem S32768 .f32) (harg8 : arg8.IsWhole) (arg9 : Memref sig .scVector .vmem S32768 .f32) (harg9 : arg9.IsWhole)
  (r0 r1 r2 r3 : DmaSems sig S_) (v1 c0 c1 : BitVec 32) (k2 : Fin k0_t2_loop.trips)

/-- A trip of the loop counting the queries' tokens. -/
theorem trip_t3 (X : Vec F S656 .i32) (hX : ∀ x, (X x : BitVec 32).toNat < 1000) (k : Fin k0_t3_loop.trips) (u : Unit) :
    iprop(Has (F := F) (thrOf d i) arg6 X ∗ Has (thrOf d i) arg8 (cnt 20 (wd X) (20 * k.val)))
      ⊢ wp frame (wpE defs₀ 𝒱₀ (thrOf d i) none) Set.univ
          (k0_t3_body (F := F) i arg2 harg2 arg3 harg3 arg4 harg4 arg5 harg5 arg6 harg6 arg7 harg7 arg8 harg8 arg9 harg9 r0 r1 r2 r3 v1 k0_pay2 lanes c0 c1 k2 k u)
          fun _ => iprop(Has (thrOf d i) arg6 X ∗ Has (thrOf d i) arg8 (cnt 20 (wd X) (20 * (k.val + 1)))) := by
  have hk : k.val < 32 := k.isLt
  unfold k0_t3_body
  iintro H
  iapply (group_cnt X 20 k.val 0 16 (20 * k.val) (20 * k.val + 16) (k0_off4_eq k) (by omega) (by omega) (by omega) (by omega) hk hX
    (ix_row k.val) (fun _ h => h) (fun _ h => h) (fun _ => rfl) (ones_mask 16 rfl)) $$ H
  iintro %w %h H
  iapply (group_cnt X 20 k.val 16 4 (20 * k.val + 16) (20 * (k.val + 1)) (k0_off5_eq k) (by omega) (by omega) (by omega) (by omega) hk hX
    (ix_row k.val) (fun _ h => h) (fun _ h => h) (fun _ => rfl) mask29) $$ H
  iintro %w' %h' H
  rw [wp_pure]
  imodintro
  iexact H

set_option maxHeartbeats 4000000 in
/-- A trip of the loop counting the texts' tokens. -/
theorem trip_t4 (X : Vec F S6416 .i32) (hX : ∀ x, (X x : BitVec 32).toNat < 1000) (k : Fin k0_t4_loop.trips) (u : Unit) :
    iprop(Has (F := F) (thrOf d i) arg7 X ∗ Has (thrOf d i) arg9 (cnt 200 (wd X) (200 * k.val)))
      ⊢ wp frame (wpE defs₀ 𝒱₀ (thrOf d i) none) Set.univ
          (k0_t4_body (F := F) i arg2 harg2 arg3 harg3 arg4 harg4 arg5 harg5 arg6 harg6 arg7 harg7 arg8 harg8 arg9 harg9 r0 r1 r2 r3 v1 k0_pay2 lanes c0 c1 k2 k u)
          fun _ => iprop(Has (thrOf d i) arg7 X ∗ Has (thrOf d i) arg9 (cnt 200 (wd X) (200 * (k.val + 1)))) := by
  have hk : k.val < 32 := k.isLt
  unfold k0_t4_body
  rw [wp_bind, k0_part1_eq_skeleton]
  unfold k0_part1_skel
  iintro H
  iapply (group_cnt X 200 k.val 0 16 (200 * k.val) (200 * k.val + 16) (k0_off6_eq k) (by omega) (by omega) (by omega) (by omega) hk hX
    (ix_row k.val) (fun _ h => h) (fun _ h => h) (fun _ => rfl) (ones_mask 16 rfl)) $$ H
  iintro %w0 %h0 H
  iapply (group_cnt X 200 k.val 16 16 (200 * k.val + 16) (200 * k.val + 32) (k0_off7_eq k) (by omega) (by omega) (by omega) (by omega) hk hX
    (ix_row k.val) (fun _ h => h) (fun _ h => h) (fun _ => rfl) (ones_mask 16 rfl)) $$ H
  iintro %w1 %h1 H
  iapply (group_cnt X 200 k.val 32 16 (200 * k.val + 32) (200 * k.val + 48) (k0_off8_eq k) (by omega) (by omega) (by omega) (by omega) hk hX
    (ix_row k.val) (fun _ h => h) (fun _ h => h) (fun _ => rfl) (ones_mask 16 rfl)) $$ H
  iintro %w2 %h2 H
  iapply (group_cnt X 200 k.val 48 16 (200 * k.val + 48) (200 * k.val + 64) (k0_off9_eq k) (by omega) (by omega) (by omega) (by omega) hk hX
    (ix_row k.val) (fun _ h => h) (fun _ h => h) (fun _ => rfl) (ones_mask 16 rfl)) $$ H
  iintro %w3 %h3 H
  iapply (group_cnt X 200 k.val 64 16 (200 * k.val + 64) (200 * k.val + 80) (k0_off10_eq k) (by omega) (by omega) (by omega) (by omega) hk hX
    (ix_row k.val) (fun _ h => h) (fun _ h => h) (fun _ => rfl) (ones_mask 16 rfl)) $$ H
  iintro %w4 %h4 H
  iapply (group_cnt X 200 k.val 80 16 (200 * k.val + 80) (200 * k.val + 96) (k0_off11_eq k) (by omega) (by omega) (by omega) (by omega) hk hX
    (ix_row k.val) (fun _ h => h) (fun _ h => h) (fun _ => rfl) (ones_mask 16 rfl)) $$ H
  iintro %w5 %h5 H
  icases H with ⟨Ht, Hb⟩
  iapply (wp_load_chk (thr := thrOf d i) (tok := arg7) X (chk_of hk (fun _ => hX _) (ix_row k.val _))) $$ Ht
  iintro Ht
  iapply wp_done
  iapply (wp_scatter (thr := thrOf d i) (base := arg9) (cnt 200 (wd X) (200 * k.val + 96)) (cnt 200 (wd X) (200 * k.val + 112)) fun h => storeIdx_cnt (n := 16) le_rfl (fun _ => rfl) (ones_mask 16 rfl)
    (fun l hl => lane_tgt (o := 96) hk hX (ix_row k.val _) (k0_off12_eq k) rfl (by omega) l hl) h) $$ Hb
  iintro Hb
  ihave H := (show iprop(Has (F := F) (thrOf d i) arg7 X ∗ Has (thrOf d i) arg9 (cnt 200 (wd X) (200 * k.val + 112))) ⊢ iprop(Has (F := F) (thrOf d i) arg7 X ∗ Has (thrOf d i) arg9 (cnt 200 (wd X) (200 * k.val + 112))) from .rfl) $$ [Ht Hb]
  · isplitl [Ht] <;> iassumption
  iapply (group_cnt X 200 k.val 112 16 (200 * k.val + 112) (200 * k.val + 128) (k0_off13_eq k) (by omega) (by omega) (by omega) (by omega) hk hX
    (ix_row k.val) (fun _ h => h) (fun _ h => h) (fun _ => rfl) (ones_mask 16 rfl)) $$ H
  iintro %w7 %h7 H
  iapply (group_cnt X 200 k.val 128 16 (200 * k.val + 128) (200 * k.val + 144) (k0_off14_eq k) (by omega) (by omega) (by omega) (by omega) hk hX
    (ix_row k.val) (fun _ h => h) (fun _ h => h) (fun _ => rfl) (ones_mask 16 rfl)) $$ H
  iintro %w8 %h8 H
  iapply (group_cnt X 200 k.val 144 16 (200 * k.val + 144) (200 * k.val + 160) (k0_off15_eq k) (by omega) (by omega) (by omega) (by omega) hk hX
    (ix_row k.val) (fun _ h => h) (fun _ h => h) (fun _ => rfl) (ones_mask 16 rfl)) $$ H
  iintro %w9 %h9 H
  iapply (group_cnt X 200 k.val 160 16 (200 * k.val + 160) (200 * k.val + 176) (k0_off16_eq k) (by omega) (by omega) (by omega) (by omega) hk hX
    (ix_row k.val) (fun _ h => h) (fun _ h => h) (fun _ => rfl) (ones_mask 16 rfl)) $$ H
  iintro %w10 %h10 H
  iapply (group_cnt X 200 k.val 176 16 (200 * k.val + 176) (200 * k.val + 192) (k0_off17_eq k) (by omega) (by omega) (by omega) (by omega) hk hX
    (ix_row k.val) (fun _ h => h) (fun _ h => h) (fun _ => rfl) (ones_mask 16 rfl)) $$ H
  iintro %w11 %h11 H
  iapply (group_cnt X 200 k.val 192 8 (200 * k.val + 192) (200 * (k.val + 1)) (k0_off18_eq k) (by omega) (by omega) (by omega) (by omega) hk hX
    (ix_row k.val) (fun _ h => h) (fun _ h => h) (fun _ => rfl) mask32) $$ H
  iintro %w12 %h12 H
  rw [wp_pure]
  imodintro
  iexact H

/-- A trip of the loop clearing the queries' counts. -/
theorem trip_t5 (X : Vec F S656 .i32) (hX : ∀ x, (X x : BitVec 32).toNat < 1000) (k : Fin k0_t5_loop.trips) (u : Unit) :
    iprop(Has (F := F) (thrOf d i) arg6 X ∗ Has (thrOf d i) arg8 (clr 20 (wd X) 640 (20 * k.val)))
      ⊢ wp frame (wpE defs₀ 𝒱₀ (thrOf d i) none) Set.univ
          (k0_t5_body (F := F) i arg2 harg2 arg3 harg3 arg4 harg4 arg5 harg5 arg6 harg6 arg7 harg7 arg8 harg8 arg9 harg9 r0 r1 r2 r3 k u)
          fun _ => iprop(Has (thrOf d i) arg6 X ∗ Has (thrOf d i) arg8 (clr 20 (wd X) 640 (20 * (k.val + 1)))) := by
  have hk : k.val < 32 := k.isLt
  unfold k0_t5_body
  iintro H
  iapply (group_clr X 640 20 k.val 0 16 (20 * k.val) (20 * k.val + 16) (k0_off20_eq k) (by omega) (by omega) (by omega) (by omega) hk hX
    (ix_row k.val) (fun _ h => h) (fun _ h => h) (fun _ => rfl) (ones_mask 16 rfl)) $$ H
  iintro %w0 %h0 H
  iapply (group_clr X 640 20 k.val 16 4 (20 * k.val + 16) (20 * (k.val + 1)) (k0_off21_eq k) (by omega) (by omega) (by omega) (by omega) hk hX
    (ix_row k.val) (fun _ h => h) (fun _ h => h) (fun _ => rfl) mask5) $$ H
  iintro %w1 %h1 H
  rw [wp_pure]
  imodintro
  iexact H

set_option maxHeartbeats 4000000 in
/-- A trip of the loop clearing the texts' counts. -/
theorem trip_t6 (X : Vec F S6416 .i32) (hX : ∀ x, (X x : BitVec 32).toNat < 1000) (k : Fin k0_t6_loop.trips) (u : Unit) :
    iprop(Has (F := F) (thrOf d i) arg7 X ∗ Has (thrOf d i) arg9 (clr 200 (wd X) 6400 (200 * k.val)))
      ⊢ wp frame (wpE defs₀ 𝒱₀ (thrOf d i) none) Set.univ
          (k0_t6_body (F := F) i arg2 harg2 arg3 harg3 arg4 harg4 arg5 harg5 arg6 harg6 arg7 harg7 arg8 harg8 arg9 harg9 r0 r1 r2 r3 k u)
          fun _ => iprop(Has (thrOf d i) arg7 X ∗ Has (thrOf d i) arg9 (clr 200 (wd X) 6400 (200 * (k.val + 1)))) := by
  have hk : k.val < 32 := k.isLt
  unfold k0_t6_body
  rw [wp_bind, k0_part2_eq_skeleton]
  unfold k0_part2_skel
  iintro H
  iapply (group_clr X 6400 200 k.val 0 16 (200 * k.val) (200 * k.val + 16) (k0_off22_eq k) (by omega) (by omega) (by omega) (by omega) hk hX
    (ix_row k.val) (fun _ h => h) (fun _ h => h) (fun _ => rfl) (ones_mask 16 rfl)) $$ H
  iintro %w0 %h0 H
  iapply (group_clr X 6400 200 k.val 16 16 (200 * k.val + 16) (200 * k.val + 32) (k0_off23_eq k) (by omega) (by omega) (by omega) (by omega) hk hX
    (ix_row k.val) (fun _ h => h) (fun _ h => h) (fun _ => rfl) (ones_mask 16 rfl)) $$ H
  iintro %w1 %h1 H
  iapply (group_clr X 6400 200 k.val 32 16 (200 * k.val + 32) (200 * k.val + 48) (k0_off24_eq k) (by omega) (by omega) (by omega) (by omega) hk hX
    (ix_row k.val) (fun _ h => h) (fun _ h => h) (fun _ => rfl) (ones_mask 16 rfl)) $$ H
  iintro %w2 %h2 H
  iapply (group_clr X 6400 200 k.val 48 16 (200 * k.val + 48) (200 * k.val + 64) (k0_off25_eq k) (by omega) (by omega) (by omega) (by omega) hk hX
    (ix_row k.val) (fun _ h => h) (fun _ h => h) (fun _ => rfl) (ones_mask 16 rfl)) $$ H
  iintro %w3 %h3 H
  iapply (group_clr X 6400 200 k.val 64 16 (200 * k.val + 64) (200 * k.val + 80) (k0_off26_eq k) (by omega) (by omega) (by omega) (by omega) hk hX
    (ix_row k.val) (fun _ h => h) (fun _ h => h) (fun _ => rfl) (ones_mask 16 rfl)) $$ H
  iintro %w4 %h4 H
  iapply (group_clr X 6400 200 k.val 80 16 (200 * k.val + 80) (200 * k.val + 96) (k0_off27_eq k) (by omega) (by omega) (by omega) (by omega) hk hX
    (ix_row k.val) (fun _ h => h) (fun _ h => h) (fun _ => rfl) (ones_mask 16 rfl)) $$ H
  iintro %w5 %h5 H
  icases H with ⟨Ht, Hb⟩
  iapply (wp_load_chk (thr := thrOf d i) (tok := arg7) X (chk_of hk (fun _ => hX _) (ix_row k.val _))) $$ Ht
  iintro Ht
  iapply wp_done
  iapply (wp_scatter (thr := thrOf d i) (base := arg9) (clr 200 (wd X) 6400 (200 * k.val + 96)) (clr 200 (wd X) 6400 (200 * k.val + 112)) fun h => storeIdx_clr (n := 16) le_rfl (fun _ => rfl) (ones_mask 16 rfl)
    (fun l hl => lane_tgt (o := 96) hk hX (ix_row k.val _) (k0_off28_eq k) rfl (by omega) l hl) h) $$ Hb
  iintro Hb
  ihave H := (show iprop(Has (F := F) (thrOf d i) arg7 X ∗ Has (thrOf d i) arg9 (clr 200 (wd X) 6400 (200 * k.val + 112))) ⊢ iprop(Has (F := F) (thrOf d i) arg7 X ∗ Has (thrOf d i) arg9 (clr 200 (wd X) 6400 (200 * k.val + 112))) from .rfl) $$ [Ht Hb]
  · isplitl [Ht] <;> iassumption
  iapply (group_clr X 6400 200 k.val 112 16 (200 * k.val + 112) (200 * k.val + 128) (k0_off29_eq k) (by omega) (by omega) (by omega) (by omega) hk hX
    (ix_row k.val) (fun _ h => h) (fun _ h => h) (fun _ => rfl) (ones_mask 16 rfl)) $$ H
  iintro %w7 %h7 H
  iapply (group_clr X 6400 200 k.val 128 16 (200 * k.val + 128) (200 * k.val + 144) (k0_off30_eq k) (by omega) (by omega) (by omega) (by omega) hk hX
    (ix_row k.val) (fun _ h => h) (fun _ h => h) (fun _ => rfl) (ones_mask 16 rfl)) $$ H
  iintro %w8 %h8 H
  iapply (group_clr X 6400 200 k.val 144 16 (200 * k.val + 144) (200 * k.val + 160) (k0_off31_eq k) (by omega) (by omega) (by omega) (by omega) hk hX
    (ix_row k.val) (fun _ h => h) (fun _ h => h) (fun _ => rfl) (ones_mask 16 rfl)) $$ H
  iintro %w9 %h9 H
  iapply (group_clr X 6400 200 k.val 160 16 (200 * k.val + 160) (200 * k.val + 176) (k0_off32_eq k) (by omega) (by omega) (by omega) (by omega) hk hX
    (ix_row k.val) (fun _ h => h) (fun _ h => h) (fun _ => rfl) (ones_mask 16 rfl)) $$ H
  iintro %w10 %h10 H
  iapply (group_clr X 6400 200 k.val 176 16 (200 * k.val + 176) (200 * k.val + 192) (k0_off33_eq k) (by omega) (by omega) (by omega) (by omega) hk hX
    (ix_row k.val) (fun _ h => h) (fun _ h => h) (fun _ => rfl) (ones_mask 16 rfl)) $$ H
  iintro %w11 %h11 H
  iapply (group_clr X 6400 200 k.val 192 8 (200 * k.val + 192) (200 * (k.val + 1)) (k0_off34_eq k) (by omega) (by omega) (by omega) (by omega) hk hX
    (ix_row k.val) (fun _ h => h) (fun _ h => h) (fun _ => rfl) mask8) $$ H
  iintro %w12 %h12 H
  rw [wp_pure]
  imodintro
  iexact H

end Trips

end Cert.Proof.Run
end
-- ==== Proof.Copies.lean ====
/-
  The task's other steps at held memrefs: a store of sixteen lanes after its load, a copy with its wait, and a counted
  loop by an invariant.
-/
module

public import proofs.«01_k».proof.Proof.Groups

@[expose] public section

noncomputable section

namespace Cert.Proof.Run

open Cert.KernelIdeal Cert.KernelIdeal.Gen Cert.Proof.Counts

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- What a memref reads after a write through a rectangle of it. -/
theorem read_write_slice {κ : Kind} {sp : Space} {s : Shape} {e : EltTy} (v : View sig κ sp s e) (r : Rect s) (f : v.ty.Contents (Elt F))
    (w : r.shape.Idx → Elt F e) (G : s.Idx → Elt F e) (hin : ∀ y, G (r.emb y) = w y) (hout : ∀ x, (∀ y, r.emb y ≠ x) → G x = v.read (Elt F) f x) :
    v.read (Elt F) ((v.slice r).write (Elt F) f w Finset.univ) = G := by
  funext x
  by_cases h : ∃ y, r.emb y = x
  · obtain ⟨y, rfl⟩ := h
    rw [hin]
    exact congrFun (View.read_write_univ (v := v.slice r) f w) y
  · push Not at h
    rw [hout x h]
    show cast _ _ = cast _ _
    congr 1
    refine View.write_of_not_mem _ _ _ fun hm => ?_
    obtain ⟨y, hy⟩ := Finset.mem_map.mp hm
    exact h y (v.emb.injective hy.2)

section Rules

variable {Λ : Labels} {defs : Defs nD τ sig (Elt F) Λ} {𝒱 : Variants} {thr : Thread nD τ} {bd : Option 𝒱.V} {E : Set ℕ} {α : Type}

/-- A load through a rectangle and a store through it. -/
theorem wp_load_store {Q : α → sProp 𝕄} {s : Shape} {e : EltTy} {m : Memref sig thr.2.kind .vmem s e} {r : Rect s}
    {hl : m.view.LoadsAt r.toLoadRect} {val : r.shape.Idx → Elt F e} {hx : (m.access r).Stores Finset.univ} {hm}
    {k : PUnit.{1} → Prog (TpuEff nD τ sig (Elt F) Λ thr.2) α} (x G : Vec F s e) (hin : ∀ y, G (r.emb y) = val y)
    (hout : ∀ j, (∀ y, r.emb y ≠ j) → G j = x j) :
    (Has thr m x)
      ⊢ iprop((Has thr m G -∗ wp frame (wpE defs 𝒱 thr bd) E (k ⟨⟩) Q)
        -∗ wp frame (wpE defs 𝒱 thr bd) E (.op (.load m r.toLoadRect hl) fun _ => .op (.store m r val Finset.univ hx hm) k) Q) := by
  unfold Has
  iintro ⟨%f, %hf, H⟩ Hk
  iapply (wp_load 𝒱 thr bd E (m := m) (S := m.view.set) (View.setOn_subset_set _ _)) $$ H
  iintro H
  iapply (wp_store 𝒱 thr bd E (m := m) (r := r) (Mk := Finset.univ) (S := m.view.set) (View.set_slice_subset m.view r)) $$ H
  iintro H
  iapply Hk
  iexists _
  isplitr
  rotate_left
  · iexact H
  · ipureintro
    exact read_write_slice m.view r f val G hin (fun j hj => (hout j hj).trans (by rw [hf]))

/-- A copy and its wait: the destination's buffer rewritten with what the source reads. -/
theorem wp_copy {Q : α → sProp 𝕄} {sp sp' : Space} {s : Shape} {e : EltTy} {src : Memref sig thr.2.kind sp s e} {dst : Memref sig thr.2.kind sp' s e}
    {sem : DmaSem sig} {hsrc hsrc' : src.view.WordExact} {hdst hdst' : dst.view.WordExact} {hsem : DmaTarget.Typed (nD := nD) sp (.dma sem) (.here dst)}
    {k : PUnit.{1} → Prog (TpuEff nD τ sig (Elt F) Λ thr.2) α} {q : PosShare TreeShare}
    {Ss : Finset (Idx (src.view.loc thr))} {fs : Buf (Elt F) (src.view.loc thr)}
    {Sd : Finset (Idx (dst.view.loc thr))} {fd : Buf (Elt F) (dst.view.loc thr)}
    {O : CellTallies nD τ sig (HIx 1)} {W : Waits sig (HIx 1)}
    (hN0 : 0 < dst.view.dmaCredit) (hSs : src.view.set ⊆ Ss) (hSd : dst.view.set ⊆ Sd) :
    iprop((src.view.loc thr ↦[Ss]{q} fs) ∗ (dst.view.loc thr ↦[Sd]{fullShare} fd) ∗ semVal (thr, SemLoc.dma sem) 0
        ∗ Transfers.MayWaits thr (default : HIx 1) O ∗ ∃ W', ⌜∀ p ∈ W', p ∈ W ∨ p.2 = none⌝ ∗ owes thr O W')
      ⊢ iprop((((src.view.loc thr ↦[Ss]{q} fs) ∗ (dst.view.loc thr ↦[Sd]{fullShare} (dst.view.write (Elt F) fd (src.view.read (Elt F) fs) Finset.univ))
            ∗ semVal (thr, SemLoc.dma sem) 0 ∗ ∃ W', ⌜∀ p ∈ W', p ∈ W ∨ p.2 = none⌝ ∗ owes thr O W')
          -∗ wp frame (wpE defs 𝒱 thr bd) Set.univ (k ⟨⟩) Q)
        -∗ wp frame (wpE defs 𝒱 thr bd) Set.univ
            (.op (.enqueueDma src (.here dst) (.dma sem) hsrc hdst hsem) fun _ => .op (.waitDma2 sem src dst hsrc' hdst') k) Q) := by
  iintro ⟨Hs, Hd, Hv, #Hmw, %W', %hW', HO⟩ Hk
  ihave Hs := (pointsTo_split_subset hSs).1 $$ Hs
  icases Hs with ⟨Hs, Hr⟩
  iapply (Transfers.wp_dmaLocal countersEmb 𝒱 thr bd (src := src) (via := .same) (dst := dst) (sm := SemLoc.dma sem) (default : HIx 1) dst.view.dmaCredit rfl hN0 hSd) $$ [Hs Hd Hv]
  · isplitl [Hs]; · iexact Hs
    isplitl [Hd] <;> iassumption
  iintro Hfl
  iapply (Transfers.wp_waitLocalO countersEmb 𝒱 thr bd (default : HIx 1) (rfl : dst.view.dmaCredit = _)) $$ [Hfl HO]
  · isplitl [Hfl]; · iexact Hfl
    isplitl [HO]; · iexact HO
    iapply (Transfers.MayWaits.elim (SemLoc.dma sem)) $$ Hmw
  iintro ⟨⟨Hd, Hs⟩, Hv, HO⟩
  iapply Hk
  isplitl [Hs Hr]
  · iapply (pointsTo_split_subset hSs).2
    isplitl [Hs] <;> iassumption
  isplitl [Hd]; · iexact Hd
  isplitl [Hv]; · iexact Hv
  iexists _
  isplitr
  rotate_left
  · iexact HO
  · ipureintro
    intro p hp
    rcases Finset.mem_insert.mp hp with hp | hp
    · exact .inr (hp ▸ rfl)
    · exact hW' p hp

end Rules

end Cert.Proof.Run
end
-- ==== Proof.Dense.lean ====
/-
  The TensorCore kernel's body: from its eight staging buffers, the first seven kept and the eighth at the scores of the
  point's 1024 rows.
-/
module

public import proofs.«01_k».proof.Proof.Copies

@[expose] public section

noncomputable section

namespace Cert.Proof.Run

open Cert.KernelIdeal Cert.KernelIdeal.Gen Cert.Proof.Counts

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)

variable {F : FTy → Type} [FloatOps F]

local notation "𝕄" => MT nD τ sig (HIx 1) (Elt F) ℕ UU ℕ

/-- A block of the rows' scores, from the two blocks of counts, the padded table and the two layers. -/
def score (cq ct : Vec F S1024x1024 .f32) (tab : Vec F S1024x64 .f32) (wq : Vec F S64x64 .f32) (bq : Vec F S1x64 .f32)
    (wt : Vec F S64x64 .f32) (bt : Vec F S1x64 .f32) : FVec F S1024x1 .f32 :=
  k1_pay1 (k1_pay4 cq tab ct tab wq bq wt bt) (k1_pay5 cq tab wq bq) (k1_pay6 ct tab wt bt)

omit [FloatOps F] in
/-- The whole of a matrix as a rectangle embeds each index as itself. -/
theorem emb_full {n0 n1 : ℕ} (h : ∀ a, (![0, 0] : Fin 2 → ℕ) a + (⟨2, ![n0, n1]⟩ : Shape).size a ≤ (⟨2, ![n0, n1]⟩ : Shape).size a)
    (x : (⟨2, ![n0, n1]⟩ : Shape).Idx) : (Rect.unit (s := ⟨2, ![n0, n1]⟩) ![0, 0] (⟨2, ![n0, n1]⟩ : Shape).size h).emb x = x := by
  funext a
  apply Fin.ext
  rw [Rect.emb_apply]
  match a with
  | 0 => show 0 + 1 * (x 0).val = (x 0).val; omega
  | 1 => show 0 + 1 * (x 1).val = (x 1).val; omega

section Rules

variable {Λ : Labels} {defs : Defs nD τ sig (Elt F) Λ} {𝒱 : Variants} {thr : Thread nD τ} {bd : Option 𝒱.V} {E : Set ℕ} {α : Type}

/-- A load of a whole matrix. -/
theorem wp_load_full {Q : α → sProp 𝕄} {n0 n1 : ℕ} {e : EltTy} {m : Memref sig thr.2.kind .vmem ⟨2, ![n0, n1]⟩ e}
    {h : ∀ a, (![0, 0] : Fin 2 → ℕ) a + (⟨2, ![n0, n1]⟩ : Shape).size a ≤ (⟨2, ![n0, n1]⟩ : Shape).size a}
    {hl : m.view.LoadsAt (Rect.unit (s := ⟨2, ![n0, n1]⟩) ![0, 0] (⟨2, ![n0, n1]⟩ : Shape).size h).toLoadRect}
    {k : Vec F ⟨2, ![n0, n1]⟩ e → Prog (TpuEff nD τ sig (Elt F) Λ thr.2) α} (x : Vec F ⟨2, ![n0, n1]⟩ e) :
    (Has thr m x)
      ⊢ iprop((Has thr m x -∗ wp frame (wpE defs 𝒱 thr bd) E (k x) Q)
        -∗ wp frame (wpE defs 𝒱 thr bd) E (.op (.load m (Rect.unit (s := ⟨2, ![n0, n1]⟩) ![0, 0] (⟨2, ![n0, n1]⟩ : Shape).size h).toLoadRect hl) k) Q) := by
  unfold Has
  iintro ⟨%f, %hf, H⟩ Hk
  iapply (wp_load 𝒱 thr bd E (m := m) (S := m.view.set) (View.setOn_subset_set _ _)) $$ H
  iintro H
  have hw : (m.view.readAt (Elt F) (Rect.unit (s := ⟨2, ![n0, n1]⟩) ![0, 0] (⟨2, ![n0, n1]⟩ : Shape).size h).toLoadRect f) = x := by
    funext y; rw [← hf]
    exact congrArg (m.view.read (Elt F) f) (emb_full h y)
  rw [hw]
  iapply Hk
  iexists f; isplitr; · ipureintro; exact hf
  iexact H

end Rules

/-- The body. -/
theorem dense_wp (c : Dev nD) (i : grid1.Coords) (M0 : Memref sig .tc .vmem S1024x1024 .f32) (h0 : M0.IsWhole) (M1 : Memref sig .tc .vmem S1024x1024 .f32) (h1 : M1.IsWhole)
    (M2 : Memref sig .tc .vmem S1024x64 .f32) (h2 : M2.IsWhole) (M3 : Memref sig .tc .vmem S64x64 .f32) (h3 : M3.IsWhole) (M4 : Memref sig .tc .vmem S1x64 .f32) (h4 : M4.IsWhole)
    (M5 : Memref sig .tc .vmem S64x64 .f32) (h5 : M5.IsWhole) (M6 : Memref sig .tc .vmem S1x64 .f32) (h6 : M6.IsWhole) (M7 : Memref sig .tc .vmem S1024x1 .f32) (h7 : M7.IsWhole)
    (x0 x1 : Vec F S1024x1024 .f32) (x2 : Vec F S1024x64 .f32) (x3 : Vec F S64x64 .f32) (x4 : Vec F S1x64 .f32) (x5 : Vec F S64x64 .f32) (x6 : Vec F S1x64 .f32) (x7 : Vec F S1024x1 .f32)
    {Q : PUnit → sProp 𝕄} :
    iprop(Has (c : Thread nD τ) M0 x0 ∗ Has (c : Thread nD τ) M1 x1 ∗ Has (c : Thread nD τ) M2 x2 ∗ Has (c : Thread nD τ) M3 x3 ∗ Has (c : Thread nD τ) M4 x4
        ∗ Has (c : Thread nD τ) M5 x5 ∗ Has (c : Thread nD τ) M6 x6 ∗ Has (c : Thread nD τ) M7 x7
        ∗ (iprop(Has (c : Thread nD τ) M0 x0 ∗ Has (c : Thread nD τ) M1 x1 ∗ Has (c : Thread nD τ) M2 x2 ∗ Has (c : Thread nD τ) M3 x3 ∗ Has (c : Thread nD τ) M4 x4
            ∗ Has (c : Thread nD τ) M5 x5 ∗ Has (c : Thread nD τ) M6 x6 ∗ Has (c : Thread nD τ) M7 (score x0 x1 x2 x3 x4 x5 x6)) -∗ Q ⟨⟩))
      ⊢ wp frame (wpE (defs₀ (F := F)) 𝒱₀ (c : Thread nD τ) none) Set.univ (cc1__tc_body i M0 h0 M1 h1 M2 h2 M3 h3 M4 h4 M5 h5 M6 h6 M7 h7) Q := by
  rw [cc1__tc_body_eq_skeleton]
  unfold cc1__tc_body_skel
  rw [wp_bind, k1_part1_eq_skeleton]
  unfold k1_part1_skel
  iintro ⟨H0, H1, H2, H3, H4, H5, H6, H7, Hk⟩
  iapply (wp_load_full (thr := (c : Thread nD τ)) x0) $$ H0
  iintro H0
  iapply (wp_load_full (thr := (c : Thread nD τ)) x2) $$ H2
  iintro H2
  iapply (wp_load_full (thr := (c : Thread nD τ)) x1) $$ H1
  iintro H1
  iapply (wp_load_full (thr := (c : Thread nD τ)) x2) $$ H2
  iintro H2
  iapply (wp_load_full (thr := (c : Thread nD τ)) x3) $$ H3
  iintro H3
  iapply (wp_load_full (thr := (c : Thread nD τ)) x4) $$ H4
  iintro H4
  iapply (wp_load_full (thr := (c : Thread nD τ)) x5) $$ H5
  iintro H5
  iapply (wp_load_full (thr := (c : Thread nD τ)) x6) $$ H6
  iintro H6
  iapply wp_done
  iapply (wp_load_store (thr := (c : Thread nD τ)) x7 (score x0 x1 x2 x3 x4 x5 x6) (fun y => congrArg (score x0 x1 x2 x3 x4 x5 x6) (emb_full _ y))
    (fun j hj => absurd (emb_full _ j) (hj j))) $$ H7
  iintro H7
  iapply wp_done
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

end Cert.Proof.Run
-- ==== Proof.Region.lean ====
/-
  The TensorCore call as a region of the host program: entered with every host buffer at a valuation, left with the
  result's array rewritten block by block and every other buffer kept.
-/
module

public import proofs.«01_k».proof.Proof.Dense
public import proofs.«01_k».proof.Proof.Gen.KernelIdeal.Launch
public import proofs.«01_k».proof.Proof.Gen.KernelIdeal.Points
public import Idealize.ShloMosaic.Lib.Pipeline.Regions
public import Idealize.ShloMosaic.Lib.Pipeline.RegionArraysS
public import Idealize.ShloMosaic.Lib.Pipeline.FrameBody

@[expose] public section

noncomputable section

namespace Cert.Proof.Run

open Cert.KernelIdeal Cert.KernelIdeal.Gen Cert.Proof.Counts

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Pipeline (Dat BodyObligation)

variable {F : FTy → Type} [FloatOps F]

local notation "𝕄" => MT nD τ sig (HIx 1) (Elt F) ℕ UU ℕ

/-- Window `w`'s block at point `t`, of the array as the valuation `V` has it. -/
abbrev blk (V : Valuation τ sig (Elt F)) (w : Fin 8) (t : Fin cfg1.N) : ((cfg1.win w).xblock (cfg1.grid.coords t)).Idx → Elt F (cfg1.win w).elt :=
  ((cfg1.win w).blk t).view.read (Elt F) (V (Proc.devRef .tc (Pipeline.arrRef spec1 w)))

/-- What the body leaves at point `t`. -/
abbrev scoreAt (V : Valuation τ sig (Elt F)) (t : Fin cfg1.N) : FVec F S1024x1 .f32 :=
  score (blk V 0 t) (blk V 1 t) (blk V 2 t) (blk V 3 t) (blk V 4 t) (blk V 5 t) (blk V 6 t)

/-- The pairs the core may have waited on before the region. -/
abbrev before8 (c : Dev nD) : Set (SemLoc sig × HIx 1) := {p | (K (F := F)).lev ((c : Thread nD τ), p.1) p.2 ≤ 8 * SparseCore.Cfg.Blocks.fst (Q := 1) (N := 1) 1}

variable (V : Dev nD → Valuation τ sig (Elt F))

/-- The region's proof data. -/
def dat (c : Dev nD) : Dat τ (Elt F) (HIx 1) ℕ UU ℕ cfg1 c where
  A w := V c (Proc.devRef .tc (Pipeline.arrRef spec1 w))
  after w t := match w with
    | ⟨0, _⟩ => blk (V c) 0 t
    | ⟨1, _⟩ => blk (V c) 1 t
    | ⟨2, _⟩ => blk (V c) 2 t
    | ⟨3, _⟩ => blk (V c) 3 t
    | ⟨4, _⟩ => blk (V c) 4 t
    | ⟨5, _⟩ => blk (V c) 5 t
    | ⟨6, _⟩ => blk (V c) 6 t
    | ⟨7, _⟩ => scoreAt (V c) t
  Φ _ := Pipeline.scopedRest (Ix := HIx 1) (Name := ℕ) (U := UU) (Lvl := ℕ) (Val := Elt F) spec1 c
  q _ := fullShare
  owed _ := 0
  recorded _ := before8 (F := F) c

set_option backward.isDefEq.respectTransparency.types false in
theorem before0 (c : Dev nD) (t : Fin cfg1.N) (d) : (dat V c).before 0 t d = blk (V c) 0 t :=
  (dat V c).before_in_eq_fetched 0 rfl (fun _ => rfl) (fun _ _ _ => rfl) (fun _ => by rfl) t d
set_option backward.isDefEq.respectTransparency.types false in
theorem before1 (c : Dev nD) (t : Fin cfg1.N) (d) : (dat V c).before 1 t d = blk (V c) 1 t :=
  (dat V c).before_in_eq_fetched 1 rfl (fun _ => rfl) (fun _ _ _ => rfl) (fun _ => by rfl) t d
set_option backward.isDefEq.respectTransparency.types false in
theorem before2 (c : Dev nD) (t : Fin cfg1.N) (d) : (dat V c).before 2 t d = blk (V c) 2 t :=
  (dat V c).before_in_eq_fetched 2 rfl (fun _ => rfl) (fun _ _ _ => rfl) (fun _ => by rfl) t d
set_option backward.isDefEq.respectTransparency.types false in
theorem before3 (c : Dev nD) (t : Fin cfg1.N) (d) : (dat V c).before 3 t d = blk (V c) 3 t :=
  (dat V c).before_in_eq_fetched 3 rfl (fun _ => rfl) (fun _ _ _ => rfl) (fun _ => by rfl) t d
set_option backward.isDefEq.respectTransparency.types false in
theorem before4 (c : Dev nD) (t : Fin cfg1.N) (d) : (dat V c).before 4 t d = blk (V c) 4 t :=
  (dat V c).before_in_eq_fetched 4 rfl (fun _ => rfl) (fun _ _ _ => rfl) (fun _ => by rfl) t d
set_option backward.isDefEq.respectTransparency.types false in
theorem before5 (c : Dev nD) (t : Fin cfg1.N) (d) : (dat V c).before 5 t d = blk (V c) 5 t :=
  (dat V c).before_in_eq_fetched 5 rfl (fun _ => rfl) (fun _ _ _ => rfl) (fun _ => by rfl) t d
set_option backward.isDefEq.respectTransparency.types false in
theorem before6 (c : Dev nD) (t : Fin cfg1.N) (d) : (dat V c).before 6 t d = blk (V c) 6 t :=
  (dat V c).before_in_eq_fetched 6 rfl (fun _ => rfl) (fun _ _ _ => rfl) (fun _ => by rfl) t d

omit [FloatOps F] in
theorem has_of_owns {sp : Space} {sh : Shape} {e : EltTy} (thr : Thread nD τ) (m : Memref sig thr.2.kind sp sh e) (x : Vec F sh e) :
    (owns thr m fullShare x : sProp 𝕄) ⊢ Has thr m x := by
  unfold owns Has; iintro H; iexact H

omit [FloatOps F] in
theorem owns_of_has {sp : Space} {sh : Shape} {e : EltTy} (thr : Thread nD τ) (m : Memref sig thr.2.kind sp sh e) (x : Vec F sh e) :
    (Has thr m x : sProp 𝕄) ⊢ owns thr m fullShare x := by
  unfold owns Has; iintro H; iexact H

set_option backward.isDefEq.respectTransparency.types false in
theorem body_obligation (c : Dev nD) : BodyObligation (dat V c) (defs₀ (F := F)) 𝒱₀ (none : HIx 1) Set.univ := fun t => by
  rw [bigSep_W1, bigSep_W1]
  simp only [before0, before1, before2, before3, before4, before5, before6]
  rw [show (dat V c).Φ t.succ = (dat V c).Φ t.castSucc from rfl, show (dat V c).owesAt (none : HIx 1) t.succ = (dat V c).owesAt (none : HIx 1) t.castSucc from rfl]
  iintro ⟨HΦ, Howes, ⟨%d0, H0⟩, ⟨%d1, H1⟩, ⟨%d2, H2⟩, ⟨%d3, H3⟩, ⟨%d4, H4⟩, ⟨%d5, H5⟩, ⟨%d6, H6⟩, ⟨%d7, H7⟩⟩
  iapply (dense_wp c (grid1.coords t) (win1_0.stage (cfg1.slots t 0)) (hstage1_0 ((cfg1.slots t 0).cast nbuf1_0)) (win1_1.stage (cfg1.slots t 1)) (hstage1_1 ((cfg1.slots t 1).cast nbuf1_1))
    (win1_2.stage (cfg1.slots t 2)) (hstage1_2 ((cfg1.slots t 2).cast nbuf1_2)) (win1_3.stage (cfg1.slots t 3)) (hstage1_3 ((cfg1.slots t 3).cast nbuf1_3))
    (win1_4.stage (cfg1.slots t 4)) (hstage1_4 ((cfg1.slots t 4).cast nbuf1_4)) (win1_5.stage (cfg1.slots t 5)) (hstage1_5 ((cfg1.slots t 5).cast nbuf1_5))
    (win1_6.stage (cfg1.slots t 6)) (hstage1_6 ((cfg1.slots t 6).cast nbuf1_6)) (win1_7.stage (cfg1.slots t 7)) (hstage1_7 ((cfg1.slots t 7).cast nbuf1_7))
    (blk (V c) 0 t) (blk (V c) 1 t) (blk (V c) 2 t) (blk (V c) 3 t) (blk (V c) 4 t) (blk (V c) 5 t) (blk (V c) 6 t) ((dat V c).before 7 t d7))
  isplitl [H0]; · iapply (has_of_owns _ _ _); iexact H0
  isplitl [H1]; · iapply (has_of_owns _ _ _); iexact H1
  isplitl [H2]; · iapply (has_of_owns _ _ _); iexact H2
  isplitl [H3]; · iapply (has_of_owns _ _ _); iexact H3
  isplitl [H4]; · iapply (has_of_owns _ _ _); iexact H4
  isplitl [H5]; · iapply (has_of_owns _ _ _); iexact H5
  isplitl [H6]; · iapply (has_of_owns _ _ _); iexact H6
  isplitl [H7]; · iapply (has_of_owns _ _ _); iexact H7
  iintro ⟨H0, H1, H2, H3, H4, H5, H6, H7⟩
  isplitl [HΦ]; · iexact HΦ
  isplitl [Howes]; · iexact Howes
  isplitl [H0]; · iapply (owns_of_has _ _ _); iexact H0
  isplitl [H1]; · iapply (owns_of_has _ _ _); iexact H1
  isplitl [H2]; · iapply (owns_of_has _ _ _); iexact H2
  isplitl [H3]; · iapply (owns_of_has _ _ _); iexact H3
  isplitl [H4]; · iapply (owns_of_has _ _ _); iexact H4
  isplitl [H5]; · iapply (owns_of_has _ _ _); iexact H5
  isplitl [H6]; · iapply (owns_of_has _ _ _); iexact H6
  iapply (owns_of_has _ _ _); iexact H7

/-- The host's buffers. -/
def ucRefs : Finset (DevRef τ sig) := (StableHlo.tcRefs τ sig).filter fun b => ¬ b.isScoped

omit [FloatOps F] in
theorem unscopedBufs_held (c : Dev nD) (W : Valuation τ sig (Elt F)) :
    (unscopedBufs c (fun b => W b) : sProp 𝕄) = StableHlo.held (c : Thread nD τ) ucRefs W := by
  unfold unscopedBufs StableHlo.held ucRefs StableHlo.tcRefs
  rw [Finset.filter_map, bigSep_map]
  rfl

abbrev adm : (p : Fin 1) → (pcfgs (F := F) p).Adm := fun p => (cfgs p).toPCfg_adm
abbrev pdats : (p : Fin 1) → (c : Dev nD) → Dat τ (Elt F) (HIx 1) ℕ UU ℕ (Pipeline.pin (pcfgs (F := F)) adm p) c := fun _ c => dat V c

/-- The host's buffers after the region. -/
abbrev VE (c : Dev nD) : Valuation τ sig (Elt F) := Pipeline.afterRegion (dat V c) (V c)

/-- What the core owes the handshakes after the call: nothing, its waits at the handshakes' levels. -/
abbrev owesTc (c : Dev nD) : sProp 𝕄 :=
  iprop(∃ W, ⌜(K (F := F)).WBelow (c : Thread nD τ) W (8 * SparseCore.Cfg.Blocks.fst (Q := 1) (N := 1) 1)⌝ ∗ owes (c : Thread nD τ) (0 : CellTallies nD τ sig (HIx 1)) W)

set_option backward.isDefEq.respectTransparency.types false in
/-- The region over the host's buffers. -/
def reg : Pipeline.RegionSeg (pcfgs (F := F)) adm (pdats V) (none : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation V c).loose
  hwaits := Pipeline.hwaits_of_owed_zero _ _ _ _ (K (F := F)).L (K (F := F)).lev 0 fun _ _ => rfl
  pre c := iprop(StableHlo.held (c : Thread nD τ) ucRefs (V c) ∗ owesTc (F := F) c)
  post c := iprop(StableHlo.held (c : Thread nD τ) ucRefs (VE V c) ∗ owesTc (F := F) c)
  X _ := BI.emp
  Y _ := BI.emp
  Z c := Pipeline.unscopedRest (Ix := HIx 1) (Name := ℕ) (U := UU) (Lvl := ℕ) spec1 c (fun b => V c b)
  hentry c := by
    rw [Pipeline.ownSems0_none, ← unscopedBufs_held]
    have hsplit := Pipeline.arrays_of_unscopedBufs (p := 0) (pcfgs (F := F)) adm (pdats V) launch1.win launch1.arr_whole c
      ((pdats V 0 c).share_full fun _ => rfl) (fun b => V c b) fun _ => rfl
    iintro ⟨⟨Hub, ⟨%W, %hW, HO⟩⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitr; · iempintro
    iexact Hrest
  hin c := by
    rw [show (pdats V 0 c).Φ 0 = Pipeline.scopedRest (Ix := HIx 1) (Name := ℕ) (U := UU) (Lvl := ℕ) (Val := Elt F) spec1 c from rfl]
    iintro ⟨-, -, Hr⟩; iexact Hr
  hout c := by
    rw [Pipeline.ownSems0_none, show (pdats V 0 c).Φ (Fin.last _) = Pipeline.scopedRest (Ix := HIx 1) (Name := ℕ) (U := UU) (Lvl := ℕ) (Val := Elt F) spec1 c from rfl]
    iintro Hr
    isplitr; · iempintro
    isplitr; · iempintro
    iexact Hr
  hexit c := by
    rw [← unscopedBufs_held]
    have hjoin := Pipeline.unscopedBufs_of_arrays (p := 0) (pcfgs (F := F)) adm (Ix := HIx 1) (Name := ℕ) (U := UU) (Lvl := ℕ) launch1.win launch1.arr_whole c
      (pdats V) ((pdats V 0 c).share_full fun _ => rfl) (fun b => V c b) (fun b => VE V c b) ((pdats V 0 c).arrAt · cfg1.N)
      (fun w => (Pipeline.afterRegion_arr (dat V c) (V c) launch1.win.arr_inj w).symm)
      (fun b hb => Pipeline.afterRegion_of_not_arr (dat V c) (V c) fun w h => hb (h ▸ Finset.mem_image.mpr ⟨w, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W
    isplitr
    · ipureintro
      intro p hp
      rcases hW hp with h | ⟨w, s, h⟩
      · exact h
      · rw [h]; exact Nat.zero_le _
    iexact HO

end Cert.Proof.Run
-- ==== Proof.Spec.lean ====
/-
  What the task computes, as functions of the token arrays: the tokens a chunk fetches, the table of counts it writes
  out, and the whole arrays of counts those tables make up.
-/
module

public import proofs.«01_k».proof.Proof.Counts

@[expose] public section

noncomputable section

namespace Cert.Proof.Counts

open Cert.KernelIdeal Cert.KernelIdeal.Gen
open Idealize.ShloMosaic

variable {F : FTy → Type} [FloatOps F]

/-- The indices of an array that lie in its `w`-th part of `n` elements. -/
def part {N : ℕ} (n w : ℕ) : Finset (⟨1, ![N]⟩ : Shape).Idx := Finset.univ.filter fun j => (j 0).val / n = w

theorem mem_part {N n w : ℕ} {j : (⟨1, ![N]⟩ : Shape).Idx} : j ∈ part n w ↔ (j 0).val / n = w := by
  simp [part]

/-- A token scratch after a chunk's fetch: its first `n` words those of `A` from word `b` on, the others what they were. -/
def fetch {M N : ℕ} (A : (⟨1, ![M]⟩ : Shape).Idx → BitVec 32) (X : (⟨1, ![N]⟩ : Shape).Idx → BitVec 32) (n b : ℕ) : (⟨1, ![N]⟩ : Shape).Idx → BitVec 32 :=
  fun x => if h : (x 0).val < n ∧ b + (x 0).val < M then A (fun a => ⟨b + (x 0).val, by rw [Fin.eq_zero a]; exact h.2⟩) else X x

theorem fetch_lt {M N n b : ℕ} {A : (⟨1, ![M]⟩ : Shape).Idx → BitVec 32} {X : (⟨1, ![N]⟩ : Shape).Idx → BitVec 32} (hb : b + n ≤ M)
    (hA : ∀ j, (A j).toNat < 1000) (hX : ∀ x, n ≤ (x 0).val → (X x).toNat < 1000) (x : (⟨1, ![N]⟩ : Shape).Idx) : (fetch A X n b x).toNat < 1000 := by
  unfold fetch
  split
  · exact hA _
  · exact hX _ (by omega)

theorem fetch_rest {M N n b : ℕ} {A : (⟨1, ![M]⟩ : Shape).Idx → BitVec 32} {X : (⟨1, ![N]⟩ : Shape).Idx → BitVec 32}
    (x : (⟨1, ![N]⟩ : Shape).Idx) (hx : n ≤ (x 0).val) : fetch A X n b x = X x := by
  unfold fetch
  rw [dif_neg (by omega)]

theorem wd_fetch {M N n b w : ℕ} {A : (⟨1, ![M]⟩ : Shape).Idx → BitVec 32} {X : (⟨1, ![N]⟩ : Shape).Idx → BitVec 32} (hb : b + n ≤ M) (hn : n ≤ N) (hw : w < n) :
    wd (fetch A X n b) w = wd A (b + w) := by
  unfold wd
  rw [dif_pos (by omega), dif_pos (by omega)]
  unfold fetch
  rw [dif_pos ⟨hw, by show b + w < M; omega⟩]

theorem emb_unit {N n b : ℕ} {off : Fin 1 → ℕ} (hoff : off = ![b]) (hb : ∀ a, off a + (⟨1, ![n]⟩ : Shape).size a ≤ (⟨1, ![N]⟩ : Shape).size a)
    (y : (⟨1, ![n]⟩ : Shape).Idx) : ((Rect.unit (s := ⟨1, ![N]⟩) off (⟨1, ![n]⟩ : Shape).size hb).emb y 0).val = b + (y 0).val := by
  subst hoff
  show b + _ * (y 0).val = _
  simp [Rect.unit]

/-- An index past a unit rectangle's offset and short of its end is one of the rectangle's. -/
theorem exists_emb_unit {N n b : ℕ} {off : Fin 1 → ℕ} (hoff : off = ![b]) (hb : ∀ a, off a + (⟨1, ![n]⟩ : Shape).size a ≤ (⟨1, ![N]⟩ : Shape).size a)
    (j : (⟨1, ![N]⟩ : Shape).Idx) (h1 : b ≤ (j 0).val) (h2 : (j 0).val < b + n) :
    ∃ y : (⟨1, ![n]⟩ : Shape).Idx, (y 0).val = (j 0).val - b ∧ (Rect.unit (s := ⟨1, ![N]⟩) off (⟨1, ![n]⟩ : Shape).size hb).emb y = j := by
  refine ⟨fun a => ⟨(j 0).val - b, by rw [Fin.eq_zero a]; show (j 0).val - b < n; omega⟩, rfl, ?_⟩
  funext a
  rw [Fin.eq_zero a]
  refine Fin.ext ?_
  rw [emb_unit hoff hb]
  show b + ((j 0).val - b) = _
  omega

theorem fetch_in {M N n b : ℕ} {A : (⟨1, ![M]⟩ : Shape).Idx → BitVec 32} {X : (⟨1, ![N]⟩ : Shape).Idx → BitVec 32} {off : Fin 1 → ℕ} (hoff : off = ![b])
    (hb : ∀ a, off a + (⟨1, ![n]⟩ : Shape).size a ≤ (⟨1, ![M]⟩ : Shape).size a)
    (hb' : ∀ a, (![0] : Fin 1 → ℕ) a + (⟨1, ![n]⟩ : Shape).size a ≤ (⟨1, ![N]⟩ : Shape).size a) (y : (⟨1, ![n]⟩ : Shape).Idx) :
    fetch A X n b ((Rect.unit (s := ⟨1, ![N]⟩) ![0] (⟨1, ![n]⟩ : Shape).size hb').emb y) = A ((Rect.unit (s := ⟨1, ![M]⟩) off (⟨1, ![n]⟩ : Shape).size hb).emb y) := by
  have h0 := emb_unit (N := N) (off := ![0]) (b := 0) rfl hb' y
  have h1 := emb_unit hoff hb y
  have hy : (y 0).val < n := (y 0).isLt
  have hM : b + n ≤ M := by subst hoff; exact hb 0
  unfold fetch
  rw [dif_pos ⟨by omega, by omega⟩]
  refine congrArg A (funext fun a => Fin.ext ?_)
  rw [Fin.eq_zero a, h1]
  show b + _ = _
  omega

/-- The counts, all of them: word `j` belongs to chunk `j / 32768` of `32` rows, and counts the tokens naming it there. -/
def tbl {M N : ℕ} (LQ : ℕ) (A : (⟨1, ![M]⟩ : Shape).Idx → BitVec 32) : FVec F ⟨1, ![N]⟩ .f32 := fun j =>
  cnt LQ (fun w => wd A ((j 0).val / 32768 * (32 * LQ) + w)) (32 * LQ) (fun a => ⟨(j 0).val % 32768, by rw [Fin.eq_zero a]; exact Nat.mod_lt _ (by decide)⟩)

theorem cnt_congr {LQ p : ℕ} {T T' : ℕ → ℕ} (h : ∀ w < p, T w = T' w) : cnt (F := F) LQ T p = cnt LQ T' p := by
  funext j
  unfold cnt
  have : ∀ p', p' ≤ p → Nat.count (fun w => tgt LQ T w = (j 0).val) p' = Nat.count (fun w => tgt LQ T' w = (j 0).val) p' := by
    intro p'
    induction p' with
    | zero => intro _; rw [Nat.count_zero, Nat.count_zero]
    | succ n ih =>
      intro hn
      rw [Nat.count_succ, Nat.count_succ, ih (by omega)]
      unfold tgt
      rw [h n (by omega)]
  rw [this p le_rfl]

/-- A chunk's table, at the scratch's words, is the array's at the chunk's. -/
theorem tbl_eq {M N LQ c : ℕ} {A : (⟨1, ![M]⟩ : Shape).Idx → BitVec 32} {T : ℕ → ℕ} (hT : ∀ w < 32 * LQ, T w = wd A (c * (32 * LQ) + w))
    (j : (⟨1, ![N]⟩ : Shape).Idx) (y : S32768.Idx) (hc : (j 0).val / 32768 = c) (hy : (y 0).val = (j 0).val % 32768) :
    tbl (F := F) LQ A j = cnt LQ T (32 * LQ) y := by
  unfold tbl
  rw [hc, cnt_congr hT]
  refine congrArg _ (funext fun a => Fin.ext ?_)
  rw [Fin.eq_zero a]
  exact hy.symm

end Cert.Proof.Counts
end
-- ==== Proof.Chunk.lean ====
/-
  A chunk of the task: the tokens fetched into the scratches, counted, the tables copied out, and cleared again.
-/
module

public import proofs.«01_k».proof.Proof.Copies
public import proofs.«01_k».proof.Proof.Spec

@[expose] public section

noncomputable section

namespace Cert.Proof.Run

open Cert.KernelIdeal Cert.KernelIdeal.Gen Cert.Proof.Counts

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section Rules

variable {Λ : Labels} {defs : Defs nD τ sig (Elt F) Λ} {𝒱 : Variants} {thr : Thread nD τ} {bd : Option 𝒱.V} {α : Type}

/-- A fetch of `n` words into the head of a token scratch. -/
theorem wp_fetch {Q : α → sProp 𝕄} {M N n b : ℕ} {sp : Space} {src : Memref sig thr.2.kind sp ⟨1, ![M]⟩ .i32} {m : Memref sig thr.2.kind .vmem ⟨1, ![N]⟩ .i32}
    {off : Fin 1 → ℕ} {hb : ∀ a, off a + (⟨1, ![n]⟩ : Shape).size a ≤ (⟨1, ![M]⟩ : Shape).size a}
    {hb' : ∀ a, (![0] : Fin 1 → ℕ) a + (⟨1, ![n]⟩ : Shape).size a ≤ (⟨1, ![N]⟩ : Shape).size a} {h1 h2 h1' h2'}
    {sem : DmaSem sig} {hsrc hsrc' hdst hdst' hsem}
    {k : PUnit.{1} → Prog (TpuEff nD τ sig (Elt F) Λ thr.2) α} {q : PosShare TreeShare}
    {Ss : Finset (Idx (src.view.loc thr))} {fs : Buf (Elt F) (src.view.loc thr)} {X : Vec F ⟨1, ![N]⟩ .i32}
    {O : CellTallies nD τ sig (HIx 1)} {W : Waits sig (HIx 1)} (hoff : off = ![b])
    (hN0 : 0 < (m.view.slice (Rect.unit (s := ⟨1, ![N]⟩) ![0] (⟨1, ![n]⟩ : Shape).size hb')).dmaCredit)
    (hSs : (src.view.slice (Rect.unit (s := ⟨1, ![M]⟩) off (⟨1, ![n]⟩ : Shape).size hb)).set ⊆ Ss) :
    iprop((src.view.loc thr ↦[Ss]{q} fs) ∗ Has thr m X ∗ semVal (thr, SemLoc.dma sem) 0
        ∗ Transfers.MayWaits thr (default : HIx 1) O ∗ ∃ W', ⌜∀ p ∈ W', p ∈ W ∨ p.2 = none⌝ ∗ owes thr O W')
      ⊢ iprop((((src.view.loc thr ↦[Ss]{q} fs) ∗ Has thr m (fetch (src.view.read (Elt F) fs) X n b)
            ∗ semVal (thr, SemLoc.dma sem) 0 ∗ ∃ W', ⌜∀ p ∈ W', p ∈ W ∨ p.2 = none⌝ ∗ owes thr O W')
          -∗ wp frame (wpE defs 𝒱 thr bd) Set.univ (k ⟨⟩) Q)
        -∗ wp frame (wpE defs 𝒱 thr bd) Set.univ
            (.op (.enqueueDma (src.slice (Rect.unit (s := ⟨1, ![M]⟩) off (⟨1, ![n]⟩ : Shape).size hb) h1)
                (.here (m.slice (Rect.unit (s := ⟨1, ![N]⟩) ![0] (⟨1, ![n]⟩ : Shape).size hb') h2)) (.dma sem) hsrc hdst hsem) fun _ =>
              .op (.waitDma2 sem (src.slice (Rect.unit (s := ⟨1, ![M]⟩) off (⟨1, ![n]⟩ : Shape).size hb) h1')
                (m.slice (Rect.unit (s := ⟨1, ![N]⟩) ![0] (⟨1, ![n]⟩ : Shape).size hb') h2') hsrc' hdst') k) Q) := by
  iintro ⟨Hs, Hm, Hv, Hmw, HO⟩ Hk
  unfold Has
  icases Hm with ⟨%f, %hf, Hm⟩
  iapply (wp_copy (src := src.slice (Rect.unit (s := ⟨1, ![M]⟩) off (⟨1, ![n]⟩ : Shape).size hb) h1)
    (dst := m.slice (Rect.unit (s := ⟨1, ![N]⟩) ![0] (⟨1, ![n]⟩ : Shape).size hb') h2) (Ss := Ss) (Sd := m.view.set) (q := q) (fs := fs) (fd := f)
    hN0 hSs (View.set_slice_subset m.view _)) $$ [Hs Hm Hv Hmw HO]
  · isplitl [Hs]; · iexact Hs
    isplitl [Hm]; · iexact Hm
    isplitl [Hv]; · iexact Hv
    isplitl [Hmw]; · iexact Hmw
    iexact HO
  iintro ⟨Hs, Hm, Hv, HO⟩
  iapply Hk
  isplitl [Hs]; · iexact Hs
  isplitl [Hm]
  · iexists _
    isplitr
    rotate_left
    · iexact Hm
    · ipureintro
      refine read_write_slice m.view _ f _ _ (fun y => ?_) (fun x hx => ?_)
      · exact fetch_in hoff hb hb' y
      · rw [hf]
        refine fetch_rest x ?_
        by_contra hlt
        obtain ⟨y, -, hy⟩ := exists_emb_unit (off := ![0]) (b := 0) rfl hb' x (Nat.zero_le _) (by omega)
        exact hx y hy
  isplitl [Hv]; · iexact Hv
  iexact HO

/-- A table copied out to a rectangle of an array. -/
theorem wp_flush {Q : α → sProp 𝕄} {s : Shape} {e : EltTy} {sp : Space} {dst : Memref sig thr.2.kind sp s e} {r : Rect s} {m : Memref sig thr.2.kind .vmem r.shape e} {h1 h1'}
    {sem : DmaSem sig} {hsrc hsrc' hdst hdst' hsem}
    {k : PUnit.{1} → Prog (TpuEff nD τ sig (Elt F) Λ thr.2) α}
    {Sd : Finset (Idx (dst.view.loc thr))} {fd : Buf (Elt F) (dst.view.loc thr)} {X : Vec F r.shape e}
    {O : CellTallies nD τ sig (HIx 1)} {W : Waits sig (HIx 1)}
    (hN0 : 0 < (dst.view.slice r).dmaCredit)
    (hSd : (dst.view.slice r).set ⊆ Sd) :
    iprop(Has thr m X ∗ (dst.view.loc thr ↦[Sd]{fullShare} fd) ∗ semVal (thr, SemLoc.dma sem) 0
        ∗ Transfers.MayWaits thr (default : HIx 1) O ∗ ∃ W', ⌜∀ p ∈ W', p ∈ W ∨ p.2 = none⌝ ∗ owes thr O W')
      ⊢ iprop(((Has thr m X ∗ (dst.view.loc thr ↦[Sd]{fullShare} ((dst.view.slice r).write (Elt F) fd X Finset.univ))
            ∗ semVal (thr, SemLoc.dma sem) 0 ∗ ∃ W', ⌜∀ p ∈ W', p ∈ W ∨ p.2 = none⌝ ∗ owes thr O W')
          -∗ wp frame (wpE defs 𝒱 thr bd) Set.univ (k ⟨⟩) Q)
        -∗ wp frame (wpE defs 𝒱 thr bd) Set.univ
            (.op (.enqueueDma m (.here (dst.slice r h1)) (.dma sem) hsrc hdst hsem) fun _ =>
              .op (.waitDma2 sem m (dst.slice r h1') hsrc' hdst') k) Q) := by
  iintro ⟨Hm, Hd, Hv, Hmw, HO⟩ Hk
  unfold Has
  icases Hm with ⟨%f, %hf, Hm⟩
  subst hf
  iapply (wp_copy (src := m) (dst := dst.slice r h1) (Ss := m.view.set) (Sd := Sd) (q := fullShare) (fs := f) (fd := fd)
    hN0 (Finset.Subset.refl _) hSd) $$ [Hm Hd Hv Hmw HO]
  · isplitl [Hm]; · iexact Hm
    isplitl [Hd]; · iexact Hd
    isplitl [Hv]; · iexact Hv
    isplitl [Hmw]; · iexact Hmw
    iexact HO
  iintro ⟨Hm, Hd, Hv, HO⟩
  iapply Hk
  isplitl [Hm]
  · iexists f
    isplitr
    · ipureintro; rfl
    · iexact Hm
  isplitl [Hd]; · iexact Hd
  isplitl [Hv]; · iexact Hv
  iexact HO

end Rules

/-! ## The chunk loop's trip -/

local notation "qV" => (Memref.whole Cert.KernelIdeal.main_v0_scv : Memref Cert.KernelIdeal.sig Kind.scVector Space.hbm Cert.KernelIdeal.S327680 EltTy.i32)
local notation "tV" => (Memref.whole Cert.KernelIdeal.main_v1_scv : Memref Cert.KernelIdeal.sig Kind.scVector Space.hbm Cert.KernelIdeal.S3276800 EltTy.i32)
local notation "cqV" => (Memref.whole Cert.KernelIdeal.main_v2_0_scv : Memref Cert.KernelIdeal.sig Kind.scVector Space.hbm Cert.KernelIdeal.S16777216 EltTy.f32)
local notation "ctV" => (Memref.whole Cert.KernelIdeal.main_v2_1_scv : Memref Cert.KernelIdeal.sig Kind.scVector Space.hbm Cert.KernelIdeal.S16777216 EltTy.f32)

abbrev qLoc (d : Dev nD) : Loc nD τ sig := (SparseCore.T d).loc main_v0
abbrev tLoc (d : Dev nD) : Loc nD τ sig := (SparseCore.T d).loc main_v1
abbrev cqLoc (d : Dev nD) : Loc nD τ sig := (SparseCore.T d).loc main_v2_0
abbrev ctLoc (d : Dev nD) : Loc nD τ sig := (SparseCore.T d).loc main_v2_1

/-- The tile's number. -/
abbrev wid (i : grid0.Coords) : ℕ := 2 * (i 1).val + (i 0).val

theorem mem_slice_whole {κ : Kind} {b : Ref sig κ} {r : Rect b.ty.shape} {j} (h : j ∈ ((View.whole b).slice r).set) : ∃ y, r.emb y = j := by
  obtain ⟨y, hy⟩ := Finset.mem_map.mp h
  exact ⟨y, hy.2⟩

theorem emb_mem_part {N n c P w : ℕ} {off : Fin 1 → ℕ} {hb : ∀ a, off a + (⟨1, ![n]⟩ : Shape).size a ≤ (⟨1, ![N]⟩ : Shape).size a}
    (hoff : off = ![P * w + c]) (hc : c + n ≤ P) (y : (⟨1, ![n]⟩ : Shape).Idx) : (Rect.unit (s := ⟨1, ![N]⟩) off (⟨1, ![n]⟩ : Shape).size hb).emb y ∈ part P w := by
  rw [mem_part, emb_unit hoff hb y]
  have hy : (y 0).val < n := (y 0).isLt
  rw [Nat.add_assoc, Nat.mul_add_div (by omega), Nat.div_eq_of_lt (by omega), Nat.add_zero]

/-- What an array of counts reads once chunk `c`'s table has been copied out to it. -/
theorem out_step {κ : Kind} {sp : Space} {M N c LQ : ℕ} (v : View sig κ sp ⟨1, ![N]⟩ .f32) (f : v.ty.Contents (Elt F)) {A : (⟨1, ![M]⟩ : Shape).Idx → BitVec 32} {T : ℕ → ℕ}
    (hT : ∀ w < 32 * LQ, T w = wd A (c * (32 * LQ) + w)) {off : Fin 1 → ℕ} (hoff : off = ![32768 * c])
    (hb : ∀ a, off a + S32768.size a ≤ (⟨1, ![N]⟩ : Shape).size a) (S : Finset (⟨1, ![N]⟩ : Shape).Idx) (lo : ℕ) (hlo : lo = c)
    (hf : ∀ j ∈ S, (j 0).val / 32768 < lo → v.read (Elt F) f j = tbl LQ A j) :
    ∀ j ∈ S, (j 0).val / 32768 < c + 1 → v.read (Elt F) ((v.slice (Rect.unit (s := ⟨1, ![N]⟩) off S32768.size hb)).write (Elt F) f (cnt LQ T (32 * LQ)) Finset.univ) j = tbl LQ A j := by
  intro j hj hlt
  refine (congrFun (read_write_slice v (Rect.unit (s := ⟨1, ![N]⟩) off S32768.size hb) f (cnt LQ T (32 * LQ))
    (fun j => if (j 0).val / 32768 = c then tbl LQ A j else v.read (Elt F) f j) ?_ ?_) j).trans ?_
  rotate_left 2
  · show (if _ then _ else _) = _
    split
    · rfl
    · exact hf j hj (by omega)
  · intro y
    have hy : (y 0).val < 32768 := (y 0).isLt
    have h := emb_unit hoff hb y
    have hc : ((Rect.unit (s := ⟨1, ![N]⟩) off S32768.size hb).emb y 0).val / 32768 = c := by
      rw [show ((Rect.unit (s := ⟨1, ![N]⟩) off S32768.size hb).emb y 0).val = 32768 * c + (y 0).val from h]
      omega
    show (if _ then _ else _) = _
    rw [if_pos hc]
    refine tbl_eq hT _ y hc ?_
    rw [show ((Rect.unit (s := ⟨1, ![N]⟩) off S32768.size hb).emb y 0).val = 32768 * c + (y 0).val from h]
    omega
  · intro x hx
    show (if _ then _ else _) = _
    rw [if_neg]
    intro hc
    obtain ⟨y, -, hy⟩ := exists_emb_unit (n := 32768) hoff hb x (by omega) (by omega)
    exact hx y hy

/-- A counted loop at the head of a program, by an invariant of the trip alone. -/
theorem wp_loop {Λ : Labels} {defs : Defs nD τ sig (Elt F) Λ} {𝒱 : Variants} {thr : Thread nD τ} {bd : Option 𝒱.V} {α : Type}
    {l : Scf.Loop 32} {hok} {body : Fin l.trips → Unit → Prog (TpuEff nD τ sig (Elt F) Λ thr.2) Unit} {kk : Unit → Prog (TpuEff nD τ sig (Elt F) Λ thr.2) α} {Q : α → sProp 𝕄}
    (I : ℕ → sProp 𝕄) (n : ℕ) (hn : l.trips = n) (hb : ∀ k u, I k.val ⊢ wp frame (wpE defs 𝒱 thr bd) Set.univ (body k u) fun _ => I (k.val + 1)) :
    I 0 ⊢ iprop((I n -∗ wp frame (wpE defs 𝒱 thr bd) Set.univ (kk ⟨⟩) Q) -∗ wp frame (wpE defs 𝒱 thr bd) Set.univ (Scf.Loop.for l hok ⟨⟩ body >>= kk) Q) := by
  subst hn
  iintro H Hk
  iapply (Scf.wp_for_bind frame (wpE defs 𝒱 thr bd) Set.univ l.lb l.ub l.st hok ⟨⟩ body (fun k _ => I k) hb) $$ H
  iintro %acc H
  iapply Hk
  iexact H

/-- A token scratch whose words past the first `n` are tokens. -/
def Tok {N : ℕ} (thr : Thread nD τ) (m : Memref sig thr.2.kind .vmem ⟨1, ![N]⟩ .i32) (n : ℕ) : sProp 𝕄 :=
  iprop(∃ X : Vec F ⟨1, ![N]⟩ .i32, ⌜∀ x : (⟨1, ![N]⟩ : Shape).Idx, n ≤ (x 0).val → (X x : BitVec 32).toNat < 1000⌝ ∗ Has thr m X)

/-- A tile's part of an array of counts, right up to chunk `c`. -/
def OutQ (d : Dev nD) (A : Vec F S327680 .i32) (w c : ℕ) : sProp 𝕄 :=
  iprop(∃ f : Buf (Elt F) (cqLoc d), ⌜∀ j ∈ part (N := 16777216) 524288 w, (j 0).val / 32768 < c → (cqV).view.read (Elt F) f j = tbl 20 A j⌝ ∗ (cqLoc d ↦[part (N := 16777216) 524288 w]{fullShare} f))
def OutT (d : Dev nD) (A : Vec F S3276800 .i32) (w c : ℕ) : sProp 𝕄 :=
  iprop(∃ f : Buf (Elt F) (ctLoc d), ⌜∀ j ∈ part (N := 16777216) 524288 w, (j 0).val / 32768 < c → (ctV).view.read (Elt F) f j = tbl 200 A j⌝ ∗ (ctLoc d ↦[part (N := 16777216) 524288 w]{fullShare} f))

section Chunk

variable (d : Dev nD) (i : grid0.Coords)
  (arg6 : Memref sig .scVector .vmem S656 .i32) (harg6 : arg6.IsWhole) (arg7 : Memref sig .scVector .vmem S6416 .i32) (harg7 : arg7.IsWhole)
  (arg8 : Memref sig .scVector .vmem S32768 .f32) (harg8 : arg8.IsWhole) (arg9 : Memref sig .scVector .vmem S32768 .f32) (harg9 : arg9.IsWhole)
  (r0 r1 r2 r3 : DmaSems sig S_) (A0 : Buf (Elt F) (qLoc d)) (A1 : Buf (Elt F) (tLoc d))
  (O : CellTallies nD τ sig (HIx 1)) (W : Waits sig (HIx 1))

/-- What a tile holds before chunk `k`. -/
def Chunk (k : ℕ) : sProp 𝕄 :=
  iprop((qLoc d ↦[part (N := 327680) 10240 (wid i)]{fullShare} A0) ∗ (tLoc d ↦[part (N := 3276800) 102400 (wid i)]{fullShare} A1)
    ∗ OutQ d ((qV).view.read (Elt F) A0) (wid i) (16 * wid i + k) ∗ OutT d ((tV).view.read (Elt F) A1) (wid i) (16 * wid i + k)
    ∗ Tok (thrOf d i) arg6 640 ∗ Tok (thrOf d i) arg7 6400
    ∗ Has (thrOf d i) arg8 (fun _ => zero) ∗ Has (thrOf d i) arg9 (fun _ => zero)
    ∗ semVal (thrOf d i, SemLoc.dma r0.sem) 0 ∗ semVal (thrOf d i, SemLoc.dma r1.sem) 0
    ∗ semVal (thrOf d i, SemLoc.dma r2.sem) 0 ∗ semVal (thrOf d i, SemLoc.dma r3.sem) 0
    ∗ Transfers.MayWaits (thrOf d i) (default : HIx 1) O ∗ ∃ W', ⌜∀ p ∈ W', p ∈ W ∨ p.2 = none⌝ ∗ owes (thrOf d i) O W')

theorem off2_eq (k : Fin k0_t2_loop.trips) : k0_off2 i k = ![(16 * wid i + k.val) * (32 * 20)] :=
  (k0_off2_eq i k).trans (congrArg (fun n => ![n]) (by unfold wid; omega))
theorem off3_eq (k : Fin k0_t2_loop.trips) : k0_off3 i k = ![(16 * wid i + k.val) * (32 * 200)] :=
  (k0_off3_eq i k).trans (congrArg (fun n => ![n]) (by unfold wid; omega))
theorem off19_eq (k : Fin k0_t2_loop.trips) : k0_off19 i k = ![32768 * (16 * wid i + k.val)] :=
  (k0_off19_eq i k).trans (congrArg (fun n => ![n]) (by unfold wid; omega))

theorem wid_lt : wid i < 32 := by
  have h0 : (i 0).val < 2 := (i 0).isLt
  have h1 : (i 1).val < 16 := (i 1).isLt
  unfold wid; omega

set_option maxHeartbeats 4000000 in
theorem trip_t2 (h0 : ∀ j, ((qV).view.read (Elt F) A0 j : BitVec 32).toNat < 1000) (h1 : ∀ j, ((tV).view.read (Elt F) A1 j : BitVec 32).toNat < 1000)
    (k : Fin k0_t2_loop.trips) (u : Unit) :
    Chunk d i arg6 arg7 arg8 arg9 r0 r1 r2 r3 A0 A1 O W k.val
      ⊢ wp frame (wpE defs₀ 𝒱₀ (thrOf d i) none) Set.univ
          (k0_t2_body (F := F) i qV (Memref.isWhole_whole _) tV (Memref.isWhole_whole _) cqV (Memref.isWhole_whole _) ctV (Memref.isWhole_whole _)
            arg6 harg6 arg7 harg7 arg8 harg8 arg9 harg9 r0 r1 r2 r3 (Scalar.addi (Scalar.muli (BitVec.ofNat 32 (i 1).val) 2#32) (BitVec.ofNat 32 (i 0).val)) lanes k u)
          fun _ => Chunk d i arg6 arg7 arg8 arg9 r0 r1 r2 r3 A0 A1 O W (k.val + 1) := by
  have hk : k.val < 16 := k.isLt
  have hw := wid_lt i
  unfold k0_t2_body
  rw [wp_bind, k0_part3_eq_skeleton]
  unfold k0_part3_skel Chunk Tok
  iintro ⟨Hq, Ht, Hoq, Hot, ⟨%X6, %hX6, H6⟩, ⟨%X7, %hX7, H7⟩, H8, H9, S0, S1, S2, S3, #Hmw, HO⟩
  iapply (wp_fetch (thr := thrOf d i) (src := qV) (m := arg6) (q := fullShare) (Ss := part (N := 327680) 10240 (wid i)) (fs := A0) (X := X6) (n := 640) (b := (16 * wid i + k.val) * (32 * 20))
    (off2_eq i k) (View.dmaCredit_pos _ (by decide)) (fun j hj => by
      obtain ⟨y, rfl⟩ := mem_slice_whole hj
      exact emb_mem_part (n := 640) (c := 640 * k.val) ((off2_eq i k).trans (congrArg (fun n => ![n]) (by omega))) (by omega) y)) $$ [Hq H6 S0 HO]
  · isplitl [Hq]; · iexact Hq
    isplitl [H6]; · iexact H6
    isplitl [S0]; · iexact S0
    isplitr; · iexact Hmw
    iexact HO
  iintro ⟨Hq, H6, S0, HO⟩
  iapply (wp_fetch (thr := thrOf d i) (src := tV) (m := arg7) (q := fullShare) (Ss := part (N := 3276800) 102400 (wid i)) (fs := A1) (X := X7) (n := 6400) (b := (16 * wid i + k.val) * (32 * 200))
    (off3_eq i k) (View.dmaCredit_pos _ (by decide)) (fun j hj => by
      obtain ⟨y, rfl⟩ := mem_slice_whole hj
      exact emb_mem_part (n := 6400) (c := 6400 * k.val) ((off3_eq i k).trans (congrArg (fun n => ![n]) (by omega))) (by omega) y)) $$ [Ht H7 S1 HO]
  · isplitl [Ht]; · iexact Ht
    isplitl [H7]; · iexact H7
    isplitl [S1]; · iexact S1
    isplitr; · iexact Hmw
    iexact HO
  iintro ⟨Ht, H7, S1, HO⟩
  have hX6' := fetch_lt (A := (qV).view.read (Elt F) A0) (b := (16 * wid i + k.val) * (32 * 20)) (n := 640) (by omega) h0 hX6
  have hX7' := fetch_lt (A := (tV).view.read (Elt F) A1) (b := (16 * wid i + k.val) * (32 * 200)) (n := 6400) (by omega) h1 hX7
  have hT6 : ∀ w < 32 * 20, wd (fetch ((qV).view.read (Elt F) A0) X6 640 ((16 * wid i + k.val) * (32 * 20))) w
      = wd ((qV).view.read (Elt F) A0) ((16 * wid i + k.val) * (32 * 20) + w) := fun w hlt => wd_fetch (by omega) (by omega) hlt
  have hT7 : ∀ w < 32 * 200, wd (fetch ((tV).view.read (Elt F) A1) X7 6400 ((16 * wid i + k.val) * (32 * 200))) w
      = wd ((tV).view.read (Elt F) A1) ((16 * wid i + k.val) * (32 * 200) + w) := fun w hlt => wd_fetch (by omega) (by omega) hlt
  have hR6 : ∀ x : S656.Idx, 640 ≤ (x 0).val → ((fetch ((qV).view.read (Elt F) A0) X6 640 ((16 * wid i + k.val) * (32 * 20))) x).toNat < 1000 :=
    fun x _ => hX6' x
  have hR7 : ∀ x : S6416.Idx, 6400 ≤ (x 0).val → ((fetch ((tV).view.read (Elt F) A1) X7 6400 ((16 * wid i + k.val) * (32 * 200))) x).toNat < 1000 :=
    fun x _ => hX7' x
  generalize fetch ((qV).view.read (Elt F) A0) X6 640 ((16 * wid i + k.val) * (32 * 20)) = Y6 at hX6' hT6 hR6 ⊢
  generalize fetch ((tV).view.read (Elt F) A1) X7 6400 ((16 * wid i + k.val) * (32 * 200)) = Y7 at hX7' hT7 hR7 ⊢
  iapply (wp_loop (fun p => iprop(Has (F := F) (thrOf d i) arg6 Y6 ∗ Has (thrOf d i) arg8 (cnt 20 (wd Y6) (20 * p)))) 32 rfl
    (fun k' u' => trip_t3 _ _ _ _ _ _ _ _ _ _ _ _ _ _ _ _ _ _ _ _ _ _ _ _ _ _ Y6 hX6' k' u')) $$ [H6 H8]
  · isplitl [H6]; · iexact H6
    rw [Nat.mul_zero, cnt_zero]; iexact H8
  iintro ⟨H6, H8⟩
  iapply (wp_loop (fun p => iprop(Has (F := F) (thrOf d i) arg7 Y7 ∗ Has (thrOf d i) arg9 (cnt 200 (wd Y7) (200 * p)))) 32 rfl
    (fun k' u' => trip_t4 _ _ _ _ _ _ _ _ _ _ _ _ _ _ _ _ _ _ _ _ _ _ _ _ _ _ Y7 hX7' k' u')) $$ [H7 H9]
  · isplitl [H7]; · iexact H7
    rw [Nat.mul_zero, cnt_zero]; iexact H9
  iintro ⟨H7, H9⟩
  iapply wp_done
  unfold OutQ OutT
  icases Hoq with ⟨%fq, %hfq, Hoq⟩
  icases Hot with ⟨%ft, %hft, Hot⟩
  iapply (wp_flush (thr := thrOf d i) (dst := cqV) (r := Rect.unit (s := S16777216) (k0_off19 i k) S32768.size (k0_off19_inb i k)) (m := arg8)
    (Sd := part (N := 16777216) 524288 (wid i)) (fd := fq) (X := cnt 20 (wd Y6) (32 * 20)) (View.dmaCredit_pos _ (show 0 < S32768.numel by decide)) (fun j hj => by
      obtain ⟨y, rfl⟩ := mem_slice_whole hj
      exact emb_mem_part (n := 32768) (c := 32768 * k.val) ((off19_eq i k).trans (congrArg (fun n => ![n]) (by omega))) (by omega) y)) $$ [H8 Hoq S2 HO]
  · isplitl [H8]; · iexact H8
    isplitl [Hoq]; · iexact Hoq
    isplitl [S2]; · iexact S2
    isplitr; · iexact Hmw
    iexact HO
  iintro ⟨H8, Hoq, S2, HO⟩
  iapply (wp_flush (thr := thrOf d i) (dst := ctV) (r := Rect.unit (s := S16777216) (k0_off19 i k) S32768.size (k0_off19_inb i k)) (m := arg9)
    (Sd := part (N := 16777216) 524288 (wid i)) (fd := ft) (X := cnt 200 (wd Y7) (32 * 200)) (View.dmaCredit_pos _ (show 0 < S32768.numel by decide)) (fun j hj => by
      obtain ⟨y, rfl⟩ := mem_slice_whole hj
      exact emb_mem_part (n := 32768) (c := 32768 * k.val) ((off19_eq i k).trans (congrArg (fun n => ![n]) (by omega))) (by omega) y)) $$ [H9 Hot S3 HO]
  · isplitl [H9]; · iexact H9
    isplitl [Hot]; · iexact Hot
    isplitl [S3]; · iexact S3
    isplitr; · iexact Hmw
    iexact HO
  iintro ⟨H9, Hot, S3, HO⟩
  iapply (wp_loop (fun p => iprop(Has (F := F) (thrOf d i) arg6 Y6 ∗ Has (thrOf d i) arg8 (clr 20 (wd Y6) 640 (20 * p)))) 32 rfl
    (fun k' u' => trip_t5 _ _ _ _ _ _ _ _ _ _ _ _ _ _ _ _ _ _ _ _ _ _ Y6 hX6' k' u')) $$ [H6 H8]
  · isplitl [H6]; · iexact H6
    rw [Nat.mul_zero, clr_zero]; iexact H8
  iintro ⟨H6, H8⟩
  iapply (wp_loop (fun p => iprop(Has (F := F) (thrOf d i) arg7 Y7 ∗ Has (thrOf d i) arg9 (clr 200 (wd Y7) 6400 (200 * p)))) 32 rfl
    (fun k' u' => trip_t6 _ _ _ _ _ _ _ _ _ _ _ _ _ _ _ _ _ _ _ _ _ _ Y7 hX7' k' u')) $$ [H7 H9]
  · isplitl [H7]; · iexact H7
    rw [Nat.mul_zero, clr_zero]; iexact H9
  iintro ⟨H7, H9⟩
  rw [wp_pure]
  imodintro
  isplitl [Hq]; · iexact Hq
  isplitl [Ht]; · iexact Ht
  isplitl [Hoq]
  · iexists _
    isplitr
    rotate_left
    · iexact Hoq
    · ipureintro
      exact out_step (cqV).view fq hT6 (off19_eq i k) (k0_off19_inb i k) _ (16 * wid i + k.val) rfl hfq
  isplitl [Hot]
  · iexists _
    isplitr
    rotate_left
    · iexact Hot
    · ipureintro
      exact out_step (ctV).view ft hT7 (off19_eq i k) (k0_off19_inb i k) _ (16 * wid i + k.val) rfl hft
  isplitl [H6]
  · iexists Y6
    isplitr
    · ipureintro; exact hR6
    · iexact H6
  isplitl [H7]
  · iexists Y7
    isplitr
    · ipureintro; exact hR7
    · iexact H7
  isplitl [H8]; · rw [← clr_all 20 (wd Y6) 640]; iexact H8
  isplitl [H9]; · rw [← clr_all 200 (wd Y7) 6400]; iexact H9
  isplitl [S0]; · iexact S0
  isplitl [S1]; · iexact S1
  isplitl [S2]; · iexact S2
  isplitl [S3]; · iexact S3
  isplitr; · iexact Hmw
  iexact HO

end Chunk

end Cert.Proof.Run
end
-- ==== Proof.Tile.lean ====
/-
  The task on one vector subcore: its prologue (the tables and the scratches' tails zeroed), its sixteen chunks, and
  the obligation the launch asks of it.
-/
module

public import proofs.«01_k».proof.Proof.Chunk

@[expose] public section

noncomputable section

namespace Cert.Proof.Run

open Cert.KernelIdeal Cert.KernelIdeal.Gen Cert.Proof.Counts

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "qV" => (Memref.whole Cert.KernelIdeal.main_v0_scv : Memref Cert.KernelIdeal.sig Kind.scVector Space.hbm Cert.KernelIdeal.S327680 EltTy.i32)
local notation "tV" => (Memref.whole Cert.KernelIdeal.main_v1_scv : Memref Cert.KernelIdeal.sig Kind.scVector Space.hbm Cert.KernelIdeal.S3276800 EltTy.i32)
local notation "cqV" => (Memref.whole Cert.KernelIdeal.main_v2_0_scv : Memref Cert.KernelIdeal.sig Kind.scVector Space.hbm Cert.KernelIdeal.S16777216 EltTy.f32)
local notation "ctV" => (Memref.whole Cert.KernelIdeal.main_v2_1_scv : Memref Cert.KernelIdeal.sig Kind.scVector Space.hbm Cert.KernelIdeal.S16777216 EltTy.f32)
local notation "s0V" => (Memref.whole Cert.KernelIdeal.cc0_scratch0 : Memref Cert.KernelIdeal.sig Kind.scVector Space.vmem Cert.KernelIdeal.S656 EltTy.i32)
local notation "s1V" => (Memref.whole Cert.KernelIdeal.cc0_scratch1 : Memref Cert.KernelIdeal.sig Kind.scVector Space.vmem Cert.KernelIdeal.S6416 EltTy.i32)
local notation "s2V" => (Memref.whole Cert.KernelIdeal.cc0_scratch2 : Memref Cert.KernelIdeal.sig Kind.scVector Space.vmem Cert.KernelIdeal.S32768 EltTy.f32)
local notation "s3V" => (Memref.whole Cert.KernelIdeal.cc0_scratch3 : Memref Cert.KernelIdeal.sig Kind.scVector Space.vmem Cert.KernelIdeal.S32768 EltTy.f32)

/-! ## The prologue -/

/-- A table whose first `n` words are zero. -/
def Zd (thr : Thread nD τ) (m : Memref sig thr.2.kind .vmem S32768 .f32) (n : ℕ) : sProp 𝕄 :=
  iprop(∃ x : Vec F S32768 .f32, ⌜∀ j : S32768.Idx, (j 0).val < n → x j = zero⌝ ∗ Has thr m x)

theorem zd_all (thr : Thread nD τ) (m : Memref sig thr.2.kind .vmem S32768 .f32) : (Zd thr m 32768 : sProp 𝕄) ⊢ Has thr m (fun _ => zero) := by
  unfold Zd
  iintro ⟨%x, %hx, H⟩
  have : x = fun _ => zero := funext fun j => hx j (j 0).isLt
  rw [this]
  iexact H

section Rules

variable {Λ : Labels} {defs : Defs nD τ sig (Elt F) Λ} {𝒱 : Variants} {thr : Thread nD τ} {bd : Option 𝒱.V} {E : Set ℕ} {α : Type}

/-- A store of zeros over the next sixteen words. -/
theorem wp_zero {Q : α → sProp 𝕄} {m : Memref sig thr.2.kind .vmem S32768 .f32} {n : ℕ} {off : Fin 1 → ℕ} {hb : ∀ a, off a + S16.size a ≤ S32768.size a} (hoff : off = ![n])
    {hl : m.view.LoadsAt (Rect.unit (s := S32768) off S16.size hb).toLoadRect} {val : S16.Idx → F .f32} (hval : ∀ y, val y = zero) {hx : (m.access (Rect.unit (s := S32768) off S16.size hb)).Stores Finset.univ} {hm}
    {k : PUnit.{1} → Prog (TpuEff nD τ sig (Elt F) Λ thr.2) α} :
    (Zd (F := F) thr m n)
      ⊢ iprop((Zd (F := F) thr m (n + 16) -∗ wp frame (wpE defs 𝒱 thr bd) E (k ⟨⟩) Q)
        -∗ wp frame (wpE defs 𝒱 thr bd) E (.op (.load m (Rect.unit (s := S32768) off S16.size hb).toLoadRect hl) fun _ =>
            .op (.store m (Rect.unit (s := S32768) off S16.size hb) val Finset.univ hx hm) k) Q) := by
  unfold Zd
  iintro ⟨%x, %hx0, H⟩ Hk
  iapply (wp_load_store x (fun j : S32768.Idx => if (j 0).val < n + 16 then zero else x j) (fun y => ?_) (fun j hj => ?_)) $$ H
  · have h := emb_unit (N := 32768) (n := 16) hoff hb y
    have hy : (y 0).val < 16 := (y 0).isLt
    show (if _ then _ else _) = _
    rw [if_pos (by rw [show ((Rect.unit (s := S32768) off S16.size hb).emb y 0).val = n + (y 0).val from h]; omega)]
    exact (hval y).symm
  · show (if _ then _ else _) = _
    split
    · rename_i hlt
      refine (hx0 j ?_).symm
      by_contra hge
      obtain ⟨y, -, hy⟩ := exists_emb_unit (N := 32768) (n := 16) hoff hb j (by omega) (by omega)
      exact hj y hy
    · rfl
  iintro H
  iapply Hk
  iexists _
  isplitr
  rotate_left
  · iexact H
  · ipureintro
    intro j hj
    exact if_pos hj

/-- A store of zeros over a token scratch's tail. -/
theorem wp_tail {Q : α → sProp 𝕄} {N n : ℕ} {m : Memref sig thr.2.kind .vmem ⟨1, ![N]⟩ .i32} {off : Fin 1 → ℕ} {hb : ∀ a, off a + S16.size a ≤ (⟨1, ![N]⟩ : Shape).size a} (hoff : off = ![n]) (hN : n + 16 = N)
    {hl : m.view.LoadsAt (Rect.unit (s := ⟨1, ![N]⟩) off S16.size hb).toLoadRect} {val : S16.Idx → BitVec 32} (hval : ∀ y, val y = 0#32) {hx : (m.access (Rect.unit (s := ⟨1, ![N]⟩) off S16.size hb)).Stores Finset.univ} {hm}
    {k : PUnit.{1} → Prog (TpuEff nD τ sig (Elt F) Λ thr.2) α} (x : Vec F ⟨1, ![N]⟩ .i32) :
    (Has (F := F) thr m x)
      ⊢ iprop((Tok (F := F) thr m n -∗ wp frame (wpE defs 𝒱 thr bd) E (k ⟨⟩) Q)
        -∗ wp frame (wpE defs 𝒱 thr bd) E (.op (.load m (Rect.unit (s := ⟨1, ![N]⟩) off S16.size hb).toLoadRect hl) fun _ =>
            .op (.store m (Rect.unit (s := ⟨1, ![N]⟩) off S16.size hb) val Finset.univ hx hm) k) Q) := by
  unfold Tok
  iintro H Hk
  iapply (wp_load_store x (fun j : (⟨1, ![N]⟩ : Shape).Idx => if n ≤ (j 0).val then (0#32 : BitVec 32) else x j) (fun y => ?_) (fun j hj => ?_)) $$ H
  · have h := emb_unit (n := 16) hoff hb y
    show (if _ then _ else _) = _
    rw [if_pos (by rw [show ((Rect.unit (s := ⟨1, ![N]⟩) off S16.size hb).emb y 0).val = n + (y 0).val from h]; omega)]
    exact (hval y).symm
  · show (if _ then _ else _) = _
    split
    · rename_i hge
      have hj0 : (j 0).val < N := (j 0).isLt
      obtain ⟨y, -, hy⟩ := exists_emb_unit (n := 16) hoff hb j (by omega) (by omega)
      exact absurd hy (hj y)
    · rfl
  iintro H
  iapply Hk
  iexists _
  isplitr
  rotate_left
  · iexact H
  · ipureintro
    intro j hj
    show (if _ then _ else _ : BitVec 32).toNat < 1000
    rw [if_pos hj]
    decide

end Rules

section Body

variable (d : Dev nD) (i : grid0.Coords)
  (arg2 : Memref sig .scVector .hbm S327680 .i32) (harg2 : arg2.IsWhole) (arg3 : Memref sig .scVector .hbm S3276800 .i32) (harg3 : arg3.IsWhole)
  (arg4 : Memref sig .scVector .hbm S16777216 .f32) (harg4 : arg4.IsWhole) (arg5 : Memref sig .scVector .hbm S16777216 .f32) (harg5 : arg5.IsWhole)
  (arg6 : Memref sig .scVector .vmem S656 .i32) (harg6 : arg6.IsWhole) (arg7 : Memref sig .scVector .vmem S6416 .i32) (harg7 : arg7.IsWhole)
  (arg8 : Memref sig .scVector .vmem S32768 .f32) (harg8 : arg8.IsWhole) (arg9 : Memref sig .scVector .vmem S32768 .f32) (harg9 : arg9.IsWhole)
  (r0 r1 r2 r3 : DmaSems sig S_)

theorem trip_t1 (k : Fin k0_t1_loop.trips) (u : Unit) :
    iprop(Zd (F := F) (thrOf d i) arg8 (16 * k.val) ∗ Zd (F := F) (thrOf d i) arg9 (16 * k.val))
      ⊢ wp frame (wpE defs₀ 𝒱₀ (thrOf d i) none) Set.univ
          (k0_t1_body (F := F) i arg2 harg2 arg3 harg3 arg4 harg4 arg5 harg5 arg6 harg6 arg7 harg7 arg8 harg8 arg9 harg9 r0 r1 r2 r3 k u)
          fun _ => iprop(Zd (thrOf d i) arg8 (16 * (k.val + 1)) ∗ Zd (thrOf d i) arg9 (16 * (k.val + 1))) := by
  unfold k0_t1_body
  iintro ⟨H8, H9⟩
  iapply (wp_zero (thr := thrOf d i) (k0_off1_eq k) (fun _ => rfl)) $$ H8
  iintro H8
  iapply (wp_zero (thr := thrOf d i) (k0_off1_eq k) (fun _ => rfl)) $$ H9
  iintro H9
  iapply wp_done
  isplitl [H8]
  · iexact H8
  · iexact H9

variable (A0 : Buf (Elt F) (qLoc d)) (A1 : Buf (Elt F) (tLoc d)) (O : CellTallies nD τ sig (HIx 1)) (W : Waits sig (HIx 1))

theorem body_wp (h0 : ∀ j, ((qV).view.read (Elt F) A0 j : BitVec 32).toNat < 1000) (h1 : ∀ j, ((tV).view.read (Elt F) A1 j : BitVec 32).toNat < 1000)
    (x6 : Vec F S656 .i32) (x7 : Vec F S6416 .i32) (x8 x9 : Vec F S32768 .f32) :
    iprop((qLoc d ↦[part (N := 327680) 10240 (wid i)]{fullShare} A0) ∗ (tLoc d ↦[part (N := 3276800) 102400 (wid i)]{fullShare} A1)
        ∗ OutQ d ((qV).view.read (Elt F) A0) (wid i) (16 * wid i) ∗ OutT d ((tV).view.read (Elt F) A1) (wid i) (16 * wid i)
        ∗ Has (thrOf d i) arg6 x6 ∗ Has (thrOf d i) arg7 x7 ∗ Has (thrOf d i) arg8 x8 ∗ Has (thrOf d i) arg9 x9
        ∗ semVal (thrOf d i, SemLoc.dma r0.sem) 0 ∗ semVal (thrOf d i, SemLoc.dma r1.sem) 0
        ∗ semVal (thrOf d i, SemLoc.dma r2.sem) 0 ∗ semVal (thrOf d i, SemLoc.dma r3.sem) 0
        ∗ Transfers.MayWaits (thrOf d i) (default : HIx 1) O ∗ ∃ W', ⌜∀ p ∈ W', p ∈ W ∨ p.2 = none⌝ ∗ owes (thrOf d i) O W')
      ⊢ wp frame (wpE defs₀ 𝒱₀ (thrOf d i) none) Set.univ
          (cc0__sc_counts (F := F) i qV (Memref.isWhole_whole _) tV (Memref.isWhole_whole _) cqV (Memref.isWhole_whole _) ctV (Memref.isWhole_whole _)
            arg6 harg6 arg7 harg7 arg8 harg8 arg9 harg9 r0 r1 r2 r3)
          fun _ => Chunk d i arg6 arg7 arg8 arg9 r0 r1 r2 r3 A0 A1 O W 16 := by
  simp only [cc0__sc_counts_eq_skeleton]
  unfold cc0__sc_counts_skel
  iintro ⟨Hq, Ht, Hoq, Hot, H6, H7, H8, H9, S0, S1, S2, S3, Hmw, HO⟩
  iapply (wp_loop (fun p => iprop(Zd (F := F) (thrOf d i) arg8 (16 * p) ∗ Zd (F := F) (thrOf d i) arg9 (16 * p))) 2048 rfl
    (fun k' u' => trip_t1 _ _ _ _ _ _ _ _ _ _ _ _ _ _ _ _ _ _ _ _ _ _ k' u')) $$ [H8 H9]
  · unfold Zd
    isplitl [H8]
    · iexists x8
      isplitr
      · ipureintro; intro j hj; omega
      · iexact H8
    · iexists x9
      isplitr
      · ipureintro; intro j hj; omega
      · iexact H9
  iintro ⟨H8, H9⟩
  ihave H8 := (zd_all (F := F) (thrOf d i) arg8) $$ H8
  ihave H9 := (zd_all (F := F) (thrOf d i) arg9) $$ H9
  iapply (wp_tail (thr := thrOf d i) (n := 640) rfl rfl (fun _ => rfl) x6) $$ H6
  iintro H6
  iapply (wp_tail (thr := thrOf d i) (n := 6400) rfl rfl (fun _ => rfl) x7) $$ H7
  iintro H7
  iapply (wp_loop (fun p => Chunk d i arg6 arg7 arg8 arg9 r0 r1 r2 r3 A0 A1 O W p) 16 rfl
    (fun k' u' => trip_t2 d i arg6 harg6 arg7 harg7 arg8 harg8 arg9 harg9 r0 r1 r2 r3 A0 A1 O W h0 h1 k' u')) $$ [Hq Ht Hoq Hot H6 H7 H8 H9 S0 S1 S2 S3 Hmw HO]
  · unfold Chunk
    isplitl [Hq]; · iexact Hq
    isplitl [Ht]; · iexact Ht
    isplitl [Hoq]; · iexact Hoq
    isplitl [Hot]; · iexact Hot
    isplitl [H6]; · iexact H6
    isplitl [H7]; · iexact H7
    isplitl [H8]; · iexact H8
    isplitl [H9]; · iexact H9
    isplitl [S0]; · iexact S0
    isplitl [S1]; · iexact S1
    isplitl [S2]; · iexact S2
    isplitl [S3]; · iexact S3
    isplitl [Hmw]; · iexact Hmw
    iexact HO
  iintro H
  rw [wp_pure]
  imodintro
  iexact H

end Body

/-! ## The tile's own buffers and semaphores -/

section Tile

variable (d : Dev nD) (i : grid0.Coords)

abbrev cell0 : GSem nD τ sig := (thrOf d i, .dma cc0_scoped0.sem)
abbrev cell1 : GSem nD τ sig := (thrOf d i, .dma cc0_scoped1.sem)
abbrev cell2 : GSem nD τ sig := (thrOf d i, .dma cc0_scoped2.sem)
abbrev cell3 : GSem nD τ sig := (thrOf d i, .dma cc0_scoped3.sem)

theorem cell_ne {d : Dev nD} {i : grid0.Coords} {a b : SemLoc sig} (h : a ≠ b) : ((thrOf d i, a) : GSem nD τ sig) ≠ (thrOf d i, b) :=
  fun e => h (congrArg Prod.snd e)

theorem ownSems0_eq :
    (ownSems0 (thrOf d i) : sProp 𝕄)
      = iprop(semVal (cell0 d i) 0 ∗ semVal (cell1 d i) 0 ∗ semVal (cell2 d i) 0 ∗ semVal (cell3 d i) 0
          ∗ bigSep (((((ownCells (thrOf d i)).erase (cell0 d i)).erase (cell1 d i)).erase (cell2 d i)).erase (cell3 d i)) fun g => semVal g 0) := by
  unfold SparseCore.Cfg.ownSems0
  rw [SparseCore.bigSep_erase' ((mem_ownCells (g := cell0 d i)).mpr ⟨rfl, by
      show (SemLoc.dma cc0_scoped0.sem : SemLoc sig).isScoped .scVector = true; decide⟩),
    SparseCore.bigSep_erase' (Finset.mem_erase.mpr ⟨cell_ne (by decide), (mem_ownCells (g := cell1 d i)).mpr ⟨rfl, by
      show (SemLoc.dma cc0_scoped1.sem : SemLoc sig).isScoped .scVector = true; decide⟩⟩),
    SparseCore.bigSep_erase' (Finset.mem_erase.mpr ⟨cell_ne (by decide), Finset.mem_erase.mpr ⟨cell_ne (by decide),
      (mem_ownCells (g := cell2 d i)).mpr ⟨rfl, by show (SemLoc.dma cc0_scoped2.sem : SemLoc sig).isScoped .scVector = true; decide⟩⟩⟩),
    SparseCore.bigSep_erase' (Finset.mem_erase.mpr ⟨cell_ne (by decide), Finset.mem_erase.mpr ⟨cell_ne (by decide), Finset.mem_erase.mpr ⟨cell_ne (by decide),
      (mem_ownCells (g := cell3 d i)).mpr ⟨rfl, by show (SemLoc.dma cc0_scoped3.sem : SemLoc sig).isScoped .scVector = true; decide⟩⟩⟩⟩)]

abbrev bref (i : grid0.Coords) (b : Ref sig .scVector) : DevRef τ sig := (Proc.scVector ((i 0).castLE hcore0) ((i 1).castLE hsub0)).devRef b

theorem bref_ne {i : grid0.Coords} {a b : Ref sig .scVector} (h : a ≠ b) : bref i a ≠ bref i b := fun e => h (Proc.devRef_injective _ e)

theorem ownBufs_eq :
    (ownBufs (thrOf d i) : sProp 𝕄)
      = iprop((∃ f, (thrOf d i).loc cc0_scratch0 ↦{fullShare} f) ∗ (∃ f, (thrOf d i).loc cc0_scratch1 ↦{fullShare} f)
          ∗ (∃ f, (thrOf d i).loc cc0_scratch2 ↦{fullShare} f) ∗ (∃ f, (thrOf d i).loc cc0_scratch3 ↦{fullShare} f)
          ∗ bigSep (((((ownRefs (τ := τ) (.scVector ((i 0).castLE hcore0) ((i 1).castLE hsub0))).erase (bref i cc0_scratch0)).erase (bref i cc0_scratch1)).erase (bref i cc0_scratch2)).erase
              (bref i cc0_scratch3)) fun b => iprop(∃ f, ((d, b) : Loc nD τ sig) ↦{fullShare} f)) := by
  unfold SparseCore.Cfg.ownBufs
  refine (SparseCore.bigSep_erase' (SparseCore.Cfg.mem_ownRefs_of_owner (p := Proc.scVector ((i 0).castLE hcore0) ((i 1).castLE hsub0)) (b := bref i cc0_scratch0) rfl)).trans ?_
  rw [SparseCore.bigSep_erase' (Finset.mem_erase.mpr ⟨bref_ne (by decide), SparseCore.Cfg.mem_ownRefs_of_owner (p := Proc.scVector ((i 0).castLE hcore0) ((i 1).castLE hsub0)) (b := bref i cc0_scratch1) rfl⟩),
    SparseCore.bigSep_erase' (Finset.mem_erase.mpr ⟨bref_ne (by decide), Finset.mem_erase.mpr ⟨bref_ne (by decide), SparseCore.Cfg.mem_ownRefs_of_owner (p := Proc.scVector ((i 0).castLE hcore0) ((i 1).castLE hsub0)) (b := bref i cc0_scratch2) rfl⟩⟩),
    SparseCore.bigSep_erase' (Finset.mem_erase.mpr ⟨bref_ne (by decide), Finset.mem_erase.mpr ⟨bref_ne (by decide), Finset.mem_erase.mpr ⟨bref_ne (by decide), SparseCore.Cfg.mem_ownRefs_of_owner (p := Proc.scVector ((i 0).castLE hcore0) ((i 1).castLE hsub0)) (b := bref i cc0_scratch3) rfl⟩⟩⟩)]

theorem has_of_whole {b : Ref sig .scVector} {sp : Space} {s : Shape} {e : EltTy} (m : Memref sig .scVector sp s e) (hm : m.view.set = Finset.univ) (f : Buf (Elt F) (m.view.loc (thrOf d i))) :
    (m.view.loc (thrOf d i) ↦{fullShare} f : sProp 𝕄) ⊢ Has (thrOf d i) m (m.view.read (Elt F) f) :=
  (pointsTo_set_eq hm.symm).trans (has_intro (thrOf d i) m f)

theorem whole_of_has {sp : Space} {s : Shape} {e : EltTy} (m : Memref sig .scVector sp s e) (hm : m.view.set = Finset.univ) (x : Vec F s e) :
    (Has (thrOf d i) m x : sProp 𝕄) ⊢ iprop(∃ f, m.view.loc (thrOf d i) ↦{fullShare} f) := by
  unfold Has
  iintro ⟨%f, -, H⟩
  iexists f
  iapply (pointsTo_set_eq hm)
  iexact H

/-- The arrays of counts, from the token arrays. -/
def CQ (A0 : ∀ d, Buf (Elt F) (qLoc d)) (d : Dev nD) : Buf (Elt F) (cqLoc d) := tbl (N := 16777216) 20 ((qV).view.read (Elt F) (A0 d))
def CT (A1 : ∀ d, Buf (Elt F) (tLoc d)) (d : Dev nD) : Buf (Elt F) (ctLoc d) := tbl (N := 16777216) 200 ((tV).view.read (Elt F) (A1 d))

variable (A0 : ∀ d, Buf (Elt F) (qLoc d)) (A1 : ∀ d, Buf (Elt F) (tLoc d))

/-- What a tile takes, and what it brings back. -/
abbrev goAt (w : ℕ) : sProp 𝕄 :=
  iprop((qLoc d ↦[part (N := 327680) 10240 w]{fullShare} A0 d) ∗ (tLoc d ↦[part (N := 3276800) 102400 w]{fullShare} A1 d)
    ∗ (∃ f, cqLoc d ↦[part (N := 16777216) 524288 w]{fullShare} f) ∗ (∃ f, ctLoc d ↦[part (N := 16777216) 524288 w]{fullShare} f))
abbrev tdAt (w : ℕ) : sProp 𝕄 :=
  iprop((qLoc d ↦[part (N := 327680) 10240 w]{fullShare} A0 d) ∗ (tLoc d ↦[part (N := 3276800) 102400 w]{fullShare} A1 d)
    ∗ (cqLoc d ↦[part (N := 16777216) 524288 w]{fullShare} CQ A0 d) ∗ (ctLoc d ↦[part (N := 16777216) 524288 w]{fullShare} CT A1 d))

/-- What the proof asks of the token arrays: every token is a word of the vocabulary. -/
def TokOK : Prop := ∀ d, (∀ j, ((qV).view.read (Elt F) (A0 d) j : BitVec 32).toNat < 1000) ∧ ∀ j, ((tV).view.read (Elt F) (A1 d) j : BitVec 32).toNat < 1000

theorem outQ_start (w c : ℕ) (hc : c = 16 * w) : (iprop(∃ f, cqLoc d ↦[part (N := 16777216) 524288 w]{fullShare} f) : sProp 𝕄) ⊢ OutQ d ((qV).view.read (Elt F) (A0 d)) w c := by
  unfold OutQ
  iintro ⟨%f, H⟩
  iexists f
  isplitr
  · ipureintro
    intro j hj hlt
    have := mem_part.mp hj
    omega
  · iexact H
theorem outT_start (w c : ℕ) (hc : c = 16 * w) : (iprop(∃ f, ctLoc d ↦[part (N := 16777216) 524288 w]{fullShare} f) : sProp 𝕄) ⊢ OutT d ((tV).view.read (Elt F) (A1 d)) w c := by
  unfold OutT
  iintro ⟨%f, H⟩
  iexists f
  isplitr
  · ipureintro
    intro j hj hlt
    have := mem_part.mp hj
    omega
  · iexact H
theorem outQ_end (w c : ℕ) (hc : c = 16 * w + 16) : (OutQ d ((qV).view.read (Elt F) (A0 d)) w c : sProp 𝕄) ⊢ cqLoc d ↦[part (N := 16777216) 524288 w]{fullShare} CQ A0 d := by
  unfold OutQ
  iintro ⟨%f, %hf, H⟩
  iapply (Entails.of_eq (pointsTo_congr (f := f) (g := CQ A0 d) fun j hj => by
    have := mem_part.mp hj
    have h := hf j hj (by omega)
    exact h))
  iexact H
theorem outT_end (w c : ℕ) (hc : c = 16 * w + 16) : (OutT d ((tV).view.read (Elt F) (A1 d)) w c : sProp 𝕄) ⊢ ctLoc d ↦[part (N := 16777216) 524288 w]{fullShare} CT A1 d := by
  unfold OutT
  iintro ⟨%f, %hf, H⟩
  iapply (Entails.of_eq (pointsTo_congr (f := f) (g := CT A1 d) fun j hj => by
    have := mem_part.mp hj
    have h := hf j hj (by omega)
    exact h))
  iexact H

set_option maxHeartbeats 4000000 in
/-- The task: its parts of the token arrays kept, its parts of the counts right. -/
theorem tile_body (hF : (K (F := F)).Facts) (hA : TokOK A0 A1) (O : CellTallies nD τ sig (HIx 1)) (W : Waits sig (HIx 1)) (hO : ∀ g, O g none = 0) :
    iprop(levAts (K (F := F)).L (K (F := F)).lev ∗ emp ∗ goAt d A0 A1 (wid i)
        ∗ scopedBufs (thrOf d i) ∗ scopedSems0 (thrOf d i) ∗ owes (thrOf d i) O W)
      ⊢ wp frame (wpE (defs₀ (F := F)) 𝒱₀ (thrOf d i) none) Set.univ
          (cc0__sc_counts i qV (Memref.isWhole_whole _) tV (Memref.isWhole_whole _) cqV (Memref.isWhole_whole _) ctV (Memref.isWhole_whole _)
            s0V (Memref.isWhole_whole _) s1V (Memref.isWhole_whole _) s2V (Memref.isWhole_whole _) s3V (Memref.isWhole_whole _)
            cc0_scoped0 cc0_scoped1 cc0_scoped2 cc0_scoped3)
          fun _ => iprop(tdAt d A0 A1 (wid i) ∗ scopedBufs (thrOf d i) ∗ scopedSems0 (thrOf d i)
            ∗ ∃ W', ⌜∀ p ∈ W', p ∈ W ∨ p.2 = none⌝ ∗ owes (thrOf d i) O W') := by
  rw [(K (F := F)).scopedBufs_V hF d _ _, SparseCore.Cfg.scopedSems0_V (Val := Elt F) d _ _, ownSems0_eq, ownBufs_eq]
  iintro ⟨#Hlv, -, ⟨Hq, Ht, Hoq, Hot⟩, ⟨⟨%f0, H6⟩, ⟨%f1, H7⟩, ⟨%f2, H8⟩, ⟨%f3, H9⟩, Hbufs⟩, ⟨S0, S1, S2, S3, Hsems⟩, HO⟩
  ihave Hmw := (show levAts (K (F := F)).L (K (F := F)).lev ⊢ Transfers.MayWaits (thrOf d i) (default : HIx 1) O from
    (K (F := F)).mayWaits_none (thr := thrOf d i) hO) $$ Hlv
  ihave H6 := (has_of_whole d i (b := cc0_scratch0) s0V (View.set_whole _) f0) $$ H6
  ihave H7 := (has_of_whole d i (b := cc0_scratch1) s1V (View.set_whole _) f1) $$ H7
  ihave H8 := (has_of_whole d i (b := cc0_scratch2) s2V (View.set_whole _) f2) $$ H8
  ihave H9 := (has_of_whole d i (b := cc0_scratch3) s3V (View.set_whole _) f3) $$ H9
  ihave Hoq := (outQ_start d A0 (wid i) (16 * wid i) rfl) $$ Hoq
  ihave Hot := (outT_start d A1 (wid i) (16 * wid i) rfl) $$ Hot
  iapply wp_wand_r
  isplitl [Hq Ht Hoq Hot H6 H7 H8 H9 S0 S1 S2 S3 Hmw HO]
  · iapply (body_wp (F := F) d i s0V (Memref.isWhole_whole _) s1V (Memref.isWhole_whole _) s2V (Memref.isWhole_whole _) s3V (Memref.isWhole_whole _)
      cc0_scoped0 cc0_scoped1 cc0_scoped2 cc0_scoped3 (A0 d) (A1 d) O W (hA d).1 (hA d).2 _ _ _ _)
    isplitl [Hq]; · iexact Hq
    isplitl [Ht]; · iexact Ht
    isplitl [Hoq]; · iexact Hoq
    isplitl [Hot]; · iexact Hot
    isplitl [H6]; · iexact H6
    isplitl [H7]; · iexact H7
    isplitl [H8]; · iexact H8
    isplitl [H9]; · iexact H9
    isplitl [S0]; · iexact S0
    isplitl [S1]; · iexact S1
    isplitl [S2]; · iexact S2
    isplitl [S3]; · iexact S3
    isplitl [Hmw]; · iexact Hmw
    iexists W
    isplitr
    · ipureintro; exact fun p hp => .inl hp
    · iexact HO
  iintro %_ H
  unfold Chunk Tok
  icases H with ⟨Hq, Ht, Hoq, Hot, ⟨%x6, -, H6⟩, ⟨%x7, -, H7⟩, H8, H9, S0, S1, S2, S3, -, HO⟩
  ihave H6 := (whole_of_has d i s0V (View.set_whole _) _) $$ H6
  ihave H7 := (whole_of_has d i s1V (View.set_whole _) _) $$ H7
  ihave H8 := (whole_of_has d i s2V (View.set_whole _) _) $$ H8
  ihave H9 := (whole_of_has d i s3V (View.set_whole _) _) $$ H9
  ihave Hoq := (outQ_end d A0 (wid i) (16 * wid i + 16) rfl) $$ Hoq
  ihave Hot := (outT_end d A1 (wid i) (16 * wid i + 16) rfl) $$ Hot
  isplitl [Hq Ht Hoq Hot]
  · isplitl [Hq]; · iexact Hq
    isplitl [Ht]; · iexact Ht
    isplitl [Hoq]; · iexact Hoq
    iexact Hot
  isplitl [H6 H7 H8 H9 Hbufs]
  · isplitl [H6]; · iexact H6
    isplitl [H7]; · iexact H7
    isplitl [H8]; · iexact H8
    isplitl [H9]; · iexact H9
    iexact Hbufs
  isplitl [S0 S1 S2 S3 Hsems]
  · isplitl [S0]; · iexact S0
    isplitl [S1]; · iexact S1
    isplitl [S2]; · iexact S2
    isplitl [S3]; · iexact S3
    iexact Hsems
  iexact HO

end Tile

end Cert.Proof.Run
end
-- ==== Proof.Launch.lean ====
/-
  The SparseCore call as the launch theorem takes it: what its handshakes carry, each task's obligation, and the arrays
  dealt to the thirty-two tiles and put back together.
-/
module

public import proofs.«01_k».proof.Proof.Tile

@[expose] public section

noncomputable section

namespace Cert.Proof.Run

open Cert.KernelIdeal Cert.KernelIdeal.Gen Cert.Proof.Counts

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "qV" => (Memref.whole Cert.KernelIdeal.main_v0_scv : Memref Cert.KernelIdeal.sig Kind.scVector Space.hbm Cert.KernelIdeal.S327680 EltTy.i32)
local notation "tV" => (Memref.whole Cert.KernelIdeal.main_v1_scv : Memref Cert.KernelIdeal.sig Kind.scVector Space.hbm Cert.KernelIdeal.S3276800 EltTy.i32)
local notation "cqV" => (Memref.whole Cert.KernelIdeal.main_v2_0_scv : Memref Cert.KernelIdeal.sig Kind.scVector Space.hbm Cert.KernelIdeal.S16777216 EltTy.f32)
local notation "ctV" => (Memref.whole Cert.KernelIdeal.main_v2_1_scv : Memref Cert.KernelIdeal.sig Kind.scVector Space.hbm Cert.KernelIdeal.S16777216 EltTy.f32)
local notation "s0V" => (Memref.whole Cert.KernelIdeal.cc0_scratch0 : Memref Cert.KernelIdeal.sig Kind.scVector Space.vmem Cert.KernelIdeal.S656 EltTy.i32)
local notation "s1V" => (Memref.whole Cert.KernelIdeal.cc0_scratch1 : Memref Cert.KernelIdeal.sig Kind.scVector Space.vmem Cert.KernelIdeal.S6416 EltTy.i32)
local notation "s2V" => (Memref.whole Cert.KernelIdeal.cc0_scratch2 : Memref Cert.KernelIdeal.sig Kind.scVector Space.vmem Cert.KernelIdeal.S32768 EltTy.f32)
local notation "s3V" => (Memref.whole Cert.KernelIdeal.cc0_scratch3 : Memref Cert.KernelIdeal.sig Kind.scVector Space.vmem Cert.KernelIdeal.S32768 EltTy.f32)

variable (A0 : ∀ d, Buf (Elt F) (qLoc d)) (A1 : ∀ d, Buf (Elt F) (tLoc d))

/-- Each core takes and brings back what its sixteen tiles do. -/
def P : (K (F := F)).Pay (nD := nD) (Val := Elt F) (Name := ℕ) (U := UU) where
  st := fun q d c => match q with | 0 => bigSep Finset.univ fun i : Fin ((K (F := F)).nSub 0) => goAt d A0 A1 (2 * i.val + c.val)
  dn := fun q d c => match q with | 0 => bigSep Finset.univ fun i : Fin ((K (F := F)).nSub 0) => tdAt d A0 A1 (2 * i.val + c.val)
  go := fun q d c i => match q with | 0 => goAt d A0 A1 (2 * i.val + c.val)
  td := fun q d c i => match q with | 0 => tdAt d A0 A1 (2 * i.val + c.val)
  x := fun _ _ => iprop(emp)

instance P_storable : (P (F := F) A0 A1).IsStorable where
  st q d c := match q with
    | 0 => (inferInstance : BI.Storable (upEmb : UEmb _ 𝕄) (bigSep Finset.univ fun i : Fin ((K (F := F)).nSub 0) => goAt d A0 A1 (2 * i.val + c.val)))
  dn q d c := match q with
    | 0 => (inferInstance : BI.Storable (upEmb : UEmb _ 𝕄) (bigSep Finset.univ fun i : Fin ((K (F := F)).nSub 0) => tdAt d A0 A1 (2 * i.val + c.val)))
  go q d c i := match q with
    | 0 => (inferInstance : BI.Storable (upEmb : UEmb _ 𝕄) (goAt d A0 A1 (2 * i.val + c.val)))
  td q d c i := match q with
    | 0 => (inferInstance : BI.Storable (upEmb : UEmb _ 𝕄) (tdAt d A0 A1 (2 * i.val + c.val)))

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_counts (coordsV c s)
          qV (Memref.isWhole_whole _) tV (Memref.isWhole_whole _) cqV (Memref.isWhole_whole _) ctV (Memref.isWhole_whole _)
          s0V (Memref.isWhole_whole _) s1V (Memref.isWhole_whole _) s2V (Memref.isWhole_whole _) s3V (Memref.isWhole_whole _)
          cc0_scoped0 cc0_scoped1 cc0_scoped2 cc0_scoped3) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hA : TokOK A0 A1) : (K (F := F)).TileObl (D (F := F)) 𝒱 (P A0 A1) v₀ 0 := by
  intro d c i O W hO _ _
  simp only [show (P (F := F) A0 A1).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) A0 A1 hF hA O W hO).trans (wp_mono frame _ _ fun _ => obl_post)

theorem vecSplit : (K (F := F)).VecSplit' (P A0 A1) 0 := by
  intro d c
  show (bigSep Finset.univ fun i : Fin ((K (F := F)).nSub 0) => goAt d A0 A1 (2 * i.val + c.val)) ⊢ |={Set.univ}=> iprop(
      (bigSep Finset.univ fun i : Fin ((K (F := F)).nSub 0) => goAt d A0 A1 (2 * i.val + c.val))
      ∗ ((bigSep Finset.univ fun i : Fin ((K (F := F)).nSub 0) => tdAt d A0 A1 (2 * i.val + c.val))
          -∗ (bigSep Finset.univ fun i : Fin ((K (F := F)).nSub 0) => tdAt d A0 A1 (2 * i.val + c.val))))
  iintro H
  imodintro
  isplitl [H]
  · iexact H
  iintro H
  iexact H

/-! ## The arrays dealt and put back -/

theorem part_disjoint {N n : ℕ} (s t : Fin 2 × Fin 16) (h : s ≠ t) :
    Disjoint (part (N := N) n (2 * s.2.val + s.1.val)) (part n (2 * t.2.val + t.1.val)) := by
  rw [Finset.disjoint_left]
  intro j h1 h2
  rw [mem_part] at h1 h2
  refine h (Prod.ext (Fin.ext ?_) (Fin.ext ?_)) <;> omega

theorem part_cover {N n : ℕ} (hN : N = 32 * n) : (Finset.univ : Finset (Fin 2 × Fin 16)).biUnion (fun s => part (N := N) n (2 * s.2.val + s.1.val)) = Finset.univ := by
  ext j
  simp only [Finset.mem_biUnion, Finset.mem_univ, true_and, iff_true]
  have hj : (j 0).val < N := (j 0).isLt
  have hlt : (j 0).val / n < 32 := Nat.div_lt_of_lt_mul (by omega)
  refine ⟨(⟨(j 0).val / n % 2, by omega⟩, ⟨(j 0).val / n / 2, by omega⟩), ?_⟩
  rw [mem_part]
  show _ = 2 * ((j 0).val / n / 2) + (j 0).val / n % 2
  omega

theorem q_parts (d : Dev nD) (f : Buf (Elt F) (qLoc d)) :
    (qLoc d ↦{fullShare} f : sProp 𝕄) = bigSep Finset.univ fun s : Fin 2 × Fin 16 => qLoc d ↦[part (N := 327680) 10240 (2 * s.2.val + s.1.val)]{fullShare} f := by
  rw [← pointsTo_biUnion Finset.univ (ℓ := qLoc d) (fun s : Fin 2 × Fin 16 => part (N := 327680) 10240 (2 * s.2.val + s.1.val)) (fun s _ t _ h => part_disjoint s t h), part_cover (by norm_num)]
theorem t_parts (d : Dev nD) (f : Buf (Elt F) (tLoc d)) :
    (tLoc d ↦{fullShare} f : sProp 𝕄) = bigSep Finset.univ fun s : Fin 2 × Fin 16 => tLoc d ↦[part (N := 3276800) 102400 (2 * s.2.val + s.1.val)]{fullShare} f := by
  rw [← pointsTo_biUnion Finset.univ (ℓ := tLoc d) (fun s : Fin 2 × Fin 16 => part (N := 3276800) 102400 (2 * s.2.val + s.1.val)) (fun s _ t _ h => part_disjoint s t h), part_cover (by norm_num)]
theorem cq_parts (d : Dev nD) (f : Buf (Elt F) (cqLoc d)) :
    (cqLoc d ↦{fullShare} f : sProp 𝕄) = bigSep Finset.univ fun s : Fin 2 × Fin 16 => cqLoc d ↦[part (N := 16777216) 524288 (2 * s.2.val + s.1.val)]{fullShare} f := by
  rw [← pointsTo_biUnion Finset.univ (ℓ := cqLoc d) (fun s : Fin 2 × Fin 16 => part (N := 16777216) 524288 (2 * s.2.val + s.1.val)) (fun s _ t _ h => part_disjoint s t h), part_cover (by norm_num)]
theorem ct_parts (d : Dev nD) (f : Buf (Elt F) (ctLoc d)) :
    (ctLoc d ↦{fullShare} f : sProp 𝕄) = bigSep Finset.univ fun s : Fin 2 × Fin 16 => ctLoc d ↦[part (N := 16777216) 524288 (2 * s.2.val + s.1.val)]{fullShare} f := by
  rw [← pointsTo_biUnion Finset.univ (ℓ := ctLoc d) (fun s : Fin 2 × Fin 16 => part (N := 16777216) 524288 (2 * s.2.val + s.1.val)) (fun s _ t _ h => part_disjoint s t h), part_cover (by norm_num)]

theorem cores_tiles (Φ : Fin 2 × Fin 16 → sProp 𝕄) :
    (bigSep Finset.univ fun c : Fin ((K (F := F)).nCore 0) => bigSep Finset.univ fun i : Fin ((K (F := F)).nSub 0) => Φ (Fin.cast rfl c, Fin.cast rfl i)) = bigSep Finset.univ Φ :=
  (bigSep_univ_prod (α := Fin 2) (β := Fin 16) (Φ := Φ)).symm

theorem cq_some (d : Dev nD) (f : Buf (Elt F) (cqLoc d)) :
    (bigSep Finset.univ fun s : Fin 2 × Fin 16 => (cqLoc d ↦[part (N := 16777216) 524288 (2 * s.2.val + s.1.val)]{fullShare} f : sProp 𝕄))
      ⊢ (bigSep Finset.univ fun s : Fin 2 × Fin 16 => (iprop(∃ f, cqLoc d ↦[part (N := 16777216) 524288 (2 * s.2.val + s.1.val)]{fullShare} f) : sProp 𝕄)) := by
  have h : ∀ s : Fin 2 × Fin 16, (cqLoc d ↦[part (N := 16777216) 524288 (2 * s.2.val + s.1.val)]{fullShare} f : sProp 𝕄)
      ⊢ iprop(∃ f, cqLoc d ↦[part (N := 16777216) 524288 (2 * s.2.val + s.1.val)]{fullShare} f) := fun s => by
    iintro H; iexists f; iexact H
  exact bigSep_mono fun s _ => h s

theorem ct_some (d : Dev nD) (f : Buf (Elt F) (ctLoc d)) :
    (bigSep Finset.univ fun s : Fin 2 × Fin 16 => (ctLoc d ↦[part (N := 16777216) 524288 (2 * s.2.val + s.1.val)]{fullShare} f : sProp 𝕄))
      ⊢ (bigSep Finset.univ fun s : Fin 2 × Fin 16 => (iprop(∃ f, ctLoc d ↦[part (N := 16777216) 524288 (2 * s.2.val + s.1.val)]{fullShare} f) : sProp 𝕄)) := by
  have h : ∀ s : Fin 2 × Fin 16, (ctLoc d ↦[part (N := 16777216) 524288 (2 * s.2.val + s.1.val)]{fullShare} f : sProp 𝕄)
      ⊢ iprop(∃ f, ctLoc d ↦[part (N := 16777216) 524288 (2 * s.2.val + s.1.val)]{fullShare} f) := fun s => by
    iintro H; iexists f; iexact H
  exact bigSep_mono fun s _ => h s

/-- The token arrays whole and the arrays of counts at anything are what the call's cores take. -/
theorem st_intro (d : Dev nD) :
    iprop((qLoc d ↦{fullShare} A0 d) ∗ (tLoc d ↦{fullShare} A1 d) ∗ (∃ f, cqLoc d ↦{fullShare} f) ∗ ∃ f, ctLoc d ↦{fullShare} f)
      ⊢ (bigSep Finset.univ fun c : Fin ((K (F := F)).nCore 0) => (P A0 A1).st 0 d c : sProp 𝕄) := by
  show _ ⊢ (bigSep Finset.univ fun c : Fin ((K (F := F)).nCore 0) => bigSep Finset.univ fun i : Fin ((K (F := F)).nSub 0) => goAt d A0 A1 (2 * i.val + c.val))
  rw [show (bigSep Finset.univ fun c : Fin ((K (F := F)).nCore 0) => bigSep Finset.univ fun i : Fin ((K (F := F)).nSub 0) => goAt d A0 A1 (2 * i.val + c.val)) = _ from
    cores_tiles (F := F) (fun s => goAt d A0 A1 (2 * s.2.val + s.1.val)), bigSep_sep', bigSep_sep', bigSep_sep', q_parts, t_parts]
  iintro ⟨Hq, Ht, ⟨%f, Hf⟩, ⟨%g, Hg⟩⟩
  isplitl [Hq]; · iexact Hq
  isplitl [Ht]; · iexact Ht
  isplitl [Hf]
  · rw [cq_parts]
    exact cq_some d f
  · rw [ct_parts]
    exact ct_some d g

/-- What the call's cores bring back: the token arrays kept, the counts. -/
theorem dn_elim (d : Dev nD) :
    (bigSep Finset.univ fun c : Fin ((K (F := F)).nCore 0) => (P A0 A1).dn 0 d c : sProp 𝕄)
      ⊢ iprop((qLoc d ↦{fullShare} A0 d) ∗ (tLoc d ↦{fullShare} A1 d) ∗ (cqLoc d ↦{fullShare} CQ A0 d) ∗ ctLoc d ↦{fullShare} CT A1 d) := by
  show (bigSep Finset.univ fun c : Fin ((K (F := F)).nCore 0) => bigSep Finset.univ fun i : Fin ((K (F := F)).nSub 0) => tdAt d A0 A1 (2 * i.val + c.val)) ⊢ _
  rw [show (bigSep Finset.univ fun c : Fin ((K (F := F)).nCore 0) => bigSep Finset.univ fun i : Fin ((K (F := F)).nSub 0) => tdAt d A0 A1 (2 * i.val + c.val)) = _ from
    cores_tiles (F := F) (fun s => tdAt d A0 A1 (2 * s.2.val + s.1.val)), bigSep_sep', bigSep_sep', bigSep_sep', q_parts, t_parts, cq_parts, ct_parts]

end Cert.Proof.Run
end
-- ==== Proof.Main.lean ====
/-
  The whole program's run: the host's operations, the SparseCore call, the TensorCore call; what every host buffer
  holds at the end (`W4`), and the run itself over any float values.
-/
module

public import proofs.«01_k».proof.Proof.Region
public import proofs.«01_k».proof.Proof.Launch

@[expose] public section

noncomputable section

namespace Cert.Proof.Run

open Cert.KernelIdeal Cert.KernelIdeal.Gen Cert.Proof.Counts

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)

variable {F : FTy → Type} [FloatOps F]

local notation "𝕄" => MT nD τ sig (HIx 1) (Elt F) ℕ UU ℕ

/-! ## The host's operations -/

/-- The two reshapes before the SparseCore call. -/
abbrev ops1 : List (HloOp τ sig (Elt F)) :=
  [StableHlo.reshape main_arg0 main_v0 (rfl : (.i32 : EltTy) = .i32) shapeCasts_S16384x20_S327680,
   StableHlo.reshape main_arg1 main_v1 (rfl : (.i32 : EltTy) = .i32) shapeCasts_S16384x200_S3276800]

/-- The operations between the two calls. -/
abbrev ops2 : List (HloOp τ sig (Elt F)) :=
  [StableHlo.reshape main_v2_0 main_v3 (rfl : (.f32 : EltTy) = .f32) shapeCasts_S16777216_S16384x1024,
   StableHlo.reshape main_v2_1 main_v4 (rfl : (.f32 : EltTy) = .f32) shapeCasts_S16777216_S16384x1024,
   StableHlo.nullary main_cst (constant S_ .f32 0x00000000#32),
   StableHlo.unary main_cst main_v5 (broadcastInDim S1024x64 ![] bcast_S_S1024x64 : (⟨S_, .f32⟩ : BufTy).Contents (Elt F) → (⟨S1024x64, .f32⟩ : BufTy).Contents (Elt F)),
   StableHlo.nullary main_c (constantI S_ 32 0#32),
   StableHlo.unary main_c main_v6 (broadcastInDim S1 ![] bcast_S_S1 : (⟨S_, .i32⟩ : BufTy).Contents (Elt F) → (⟨S1, .i32⟩ : BufTy).Contents (Elt F)),
   StableHlo.ternary main_v5 main_v6 main_arg2 main_v7 ((fun x i u => Host.scatter scatter_S1024x64_S1_S1000x64_01_n_0_0 (fun _ b => b) x i u) : (⟨S1024x64, .f32⟩ : BufTy).Contents (Elt F) → (⟨S1, .i32⟩ : BufTy).Contents (Elt F) → (⟨S1000x64, .f32⟩ : BufTy).Contents (Elt F) → (⟨S1024x64, .f32⟩ : BufTy).Contents (Elt F)),
   StableHlo.unary main_arg3 main_v8 ((transpose S64x64 [1, 0] · transposes_S64x64_S64x64_1_0) : (⟨S64x64, .f32⟩ : BufTy).Contents (Elt F) → (⟨S64x64, .f32⟩ : BufTy).Contents (Elt F)),
   StableHlo.reshape main_arg4 main_v9 (rfl : (.f32 : EltTy) = .f32) shapeCasts_S64_S1x64,
   StableHlo.unary main_arg5 main_v10 ((transpose S64x64 [1, 0] · transposes_S64x64_S64x64_1_0) : (⟨S64x64, .f32⟩ : BufTy).Contents (Elt F) → (⟨S64x64, .f32⟩ : BufTy).Contents (Elt F)),
   StableHlo.reshape main_arg6 main_v11 (rfl : (.f32 : EltTy) = .f32) shapeCasts_S64_S1x64]

abbrev tcCall : Prog (TpuEff nD τ sig (Elt F) (SparseCore.Sig (ΛP (F := F)) 1) .tc) PUnit :=
  Prog.lift (.customCall (SparseCore.inner (Pipeline.entry 0)) ())

theorem main_eq (d : Dev nD) : main (F := F) d
    = StableHlo.seq ops1 >>= fun _ => sc.run d 0 >>= fun _ => StableHlo.seq ops2 >>= fun _ => tcCall := by
  rw [StableHlo.seq_bind_seqK, StableHlo.seq_bind_seqK]; rfl

theorem sub_uc (op : HloOp τ sig (Elt F)) (h : op.bufs ⊆ StableHlo.tcRefs τ sig) : op.bufs ⊆ ucRefs := fun b hb =>
  Finset.mem_filter.mpr ⟨h hb, fun h' => Bool.false_ne_true ((op.no_scoped b hb).symm.trans h')⟩

open StableHlo in
theorem ops1_sub : (ops1 (F := F)).Forall fun op => op.bufs ⊆ StableHlo.tcRefs τ sig :=
  ⟨reshape_bufs_sub .., reshape_bufs_sub ..⟩

open StableHlo in
theorem ops2_sub : (ops2 (F := F)).Forall fun op => op.bufs ⊆ StableHlo.tcRefs τ sig :=
  ⟨reshape_bufs_sub .., reshape_bufs_sub .., nullary_bufs_sub .., unary_bufs_sub .., nullary_bufs_sub .., unary_bufs_sub .., ternary_bufs_sub ..,
    unary_bufs_sub .., reshape_bufs_sub .., unary_bufs_sub .., reshape_bufs_sub ..⟩

theorem ops1_fresh : ∀ op ∈ ops1 (F := F), op.fresh = ∅ := by
  intro _ h; (repeat (cases h with | head => rfl | tail _ h => ?_)); exact nomatch h
theorem ops2_fresh : ∀ op ∈ ops2 (F := F), op.fresh = ∅ := by
  intro _ h; (repeat (cases h with | head => rfl | tail _ h => ?_)); exact nomatch h

/-! ## What the host's buffers hold -/

variable (m : (ℓ : Loc nD τ sig) → Buf (Elt F) ℓ) (ρ : Dev nD → PrngReg)

abbrev rQ : DevRef τ sig := Proc.devRef .tc main_v0
abbrev rT : DevRef τ sig := Proc.devRef .tc main_v1
abbrev rCQ : DevRef τ sig := Proc.devRef .tc main_v2_0
abbrev rCT : DevRef τ sig := Proc.devRef .tc main_v2_1

/-- At launch. -/
def W0 (d : Dev nD) : Valuation τ sig (Elt F) := fun b => m (d, b)
/-- Before the SparseCore call. -/
def W1 (d : Dev nD) : Valuation τ sig (Elt F) := StableHlo.after ops1 (W0 m d)
abbrev tokQ (d : Dev nD) : Buf (Elt F) (qLoc d) := W1 m d rQ
abbrev tokT (d : Dev nD) : Buf (Elt F) (tLoc d) := W1 m d rT
/-- After it. -/
def W2 (d : Dev nD) : Valuation τ sig (Elt F) := Function.update (Function.update (W1 m d) rCQ (CQ (tokQ m) d)) rCT (CT (tokT m) d)
/-- Before the TensorCore call. -/
def W3 (d : Dev nD) : Valuation τ sig (Elt F) := StableHlo.after ops2 (W2 m d)
/-- At the end. -/
def W4 (d : Dev nD) : Valuation τ sig (Elt F) := VE (W3 m) d

/-! ## The SparseCore call's arrays out of the host's buffers -/

def scRefs : Finset (DevRef τ sig) := {rQ, rT, rCQ, rCT}

theorem scRefs_sub : scRefs ⊆ ucRefs := by
  intro b hb
  simp only [scRefs, Finset.mem_insert, Finset.mem_singleton] at hb
  rcases hb with h | h | h | h <;> subst h <;> exact Finset.mem_filter.mpr ⟨StableHlo.devRef_mem_tcRefs _, by decide⟩

theorem ne_of_ref {b b' : Ref sig .tc} (h : b ≠ b') : (Proc.devRef (τ := τ) .tc b : DevRef τ sig) ≠ Proc.devRef .tc b' :=
  fun e => h (Proc.devRef_injective _ e)

theorem held_sc (d : Dev nD) (X : Valuation τ sig (Elt F)) :
    (StableHlo.held (d : Thread nD τ) scRefs X : sProp 𝕄)
      = iprop((qLoc d ↦{fullShare} X rQ) ∗ (tLoc d ↦{fullShare} X rT) ∗ (cqLoc d ↦{fullShare} X rCQ) ∗ (ctLoc d ↦{fullShare} X rCT)) := by
  unfold StableHlo.held scRefs
  have h1 : rQ ∉ ({rT, rCQ, rCT} : Finset (DevRef τ sig)) := by
    simp only [Finset.mem_insert, Finset.mem_singleton, not_or]
    exact ⟨ne_of_ref (by decide), ne_of_ref (by decide), ne_of_ref (by decide)⟩
  have h2 : rT ∉ ({rCQ, rCT} : Finset (DevRef τ sig)) := by
    simp only [Finset.mem_insert, Finset.mem_singleton, not_or]
    exact ⟨ne_of_ref (by decide), ne_of_ref (by decide)⟩
  have h3 : rCQ ∉ ({rCT} : Finset (DevRef τ sig)) := by
    simp only [Finset.mem_singleton]
    exact ne_of_ref (by decide)
  rw [SparseCore.bigSep_insert' h1, SparseCore.bigSep_insert' h2, SparseCore.bigSep_insert' h3, bigSep_singleton]

theorem W2_rQ (d : Dev nD) : W2 m d rQ = W1 m d rQ := by
  unfold W2
  rw [Function.update_of_ne (ne_of_ref (by decide)), Function.update_of_ne (ne_of_ref (by decide))]
theorem W2_rT (d : Dev nD) : W2 m d rT = W1 m d rT := by
  unfold W2
  rw [Function.update_of_ne (ne_of_ref (by decide)), Function.update_of_ne (ne_of_ref (by decide))]
theorem W2_rCQ (d : Dev nD) : W2 m d rCQ = CQ (tokQ m) d := by
  unfold W2
  rw [Function.update_of_ne (ne_of_ref (by decide)), Function.update_self]
theorem W2_rCT (d : Dev nD) : W2 m d rCT = CT (tokT m) d := by
  unfold W2
  rw [Function.update_self]
theorem W2_of_ne (d : Dev nD) (b : DevRef τ sig) (h : b ∉ scRefs) : W2 m d b = W1 m d b := by
  simp only [scRefs, Finset.mem_insert, Finset.mem_singleton, not_or] at h
  unfold W2
  rw [Function.update_of_ne h.2.2.2, Function.update_of_ne h.2.2.1]

/-! ## The ghost state -/

def u₀ : UU := ((initOf (K (F := F)).hsCells (K (F := F)).hsToks, initOf (Pipeline.cells (Pipeline.pin (pcfgs (F := F)) adm) cellOf_inj) (Pipeline.launchToks (Pipeline.pin (pcfgs (F := F)) adm) cellOf_inj)), 1)

/-- What the region takes of the pipeline's ghost state. -/
abbrev GH (d : Dev nD) : sProp 𝕄 :=
  iprop(Pipeline.cellsGhost (Pipeline.pin (pcfgs (F := F)) adm) EP 0 d ∗ Pipeline.toksInit (Pipeline.pin (pcfgs (F := F)) adm) EP 0 d)

omit [FloatOps F] in
theorem bigSep_emp' {I : Type} (s : Finset I) : (bigSep s fun _ => iprop(emp)) = (iprop(emp) : sProp 𝕄) := bigSep_emp_const s

variable (A0 : ∀ d, Buf (Elt F) (qLoc d)) (A1 : ∀ d, Buf (Elt F) (tLoc d))

theorem hu₀ : (ownU (u₀ (F := F)) : sProp 𝕄)
    ⊢ |={Set.univ}=> iprop(BI.own (EH (initOf (K (F := F)).hsCells (K (F := F)).hsToks)) ∗ (bigSep Finset.univ fun d : Dev nD => GH d)
        ∗ bigSep Finset.univ fun thr : Thread nD τ => bigSep Finset.univ fun q : Fin 1 => (P A0 A1).x q thr) := by
  unfold u₀
  iintro Hu
  ihave H := (ownU_pair (initOf (K (F := F)).hsCells (K (F := F)).hsToks, initOf (Pipeline.cells (Pipeline.pin (pcfgs (F := F)) adm) cellOf_inj) (Pipeline.launchToks (Pipeline.pin (pcfgs (F := F)) adm) cellOf_inj)) (1 : Counters)) $$ Hu
  icases H with ⟨H, -⟩
  ihave H := (own_pair_emb embL _ _) $$ H
  icases H with ⟨HH, HP⟩
  imod (Pipeline.fund_ghost (Pipeline.pin (pcfgs (F := F)) adm) EP cellOf_inj) $$ HP with ⟨Hc, Ht⟩
  imodintro
  isplitl [HH]; · iexact HH
  isplitl [Hc Ht]
  · rw [bigSep_sep']
    simp only [bigSep_univ_of_subsingleton (0 : Fin 1)]
    isplitl [Hc] <;> iassumption
  rw [show (bigSep Finset.univ fun thr : Thread nD τ => bigSep Finset.univ fun q : Fin 1 => (P A0 A1).x q thr) = bigSep Finset.univ fun _ => iprop(emp) from
    bigSep_congr fun _ _ => bigSep_univ_of_subsingleton (0 : Fin 1), bigSep_emp']
  iempintro

/-! ## @main on the TensorCore -/

abbrev FIN (d : Dev nD) : sProp 𝕄 := StableHlo.held (d : Thread nD τ) ucRefs (W4 m d)

theorem Otc_one (d : Dev nD) : (K (F := F)).Otc d 1 = 0 := (K (F := F)).Otc_end d le_rfl

/-- What the TensorCore returns with. -/
abbrev POST (d : Dev nD) : PUnit → sProp 𝕄 := fun _ => iprop((K (F := F)).tcSt EH d 1 ∗ FIN m d ∗ (K (F := F)).tcEnd d)

/-- The region, entered and left. -/
theorem region_wp [∀ e, Nonempty (Elt F e)] (V : Dev nD → Valuation τ sig (Elt F)) (d : Dev nD) (Q : PUnit → sProp 𝕄) :
    iprop((iprop(boundary (d : Thread nD τ) ∗ (StableHlo.held (d : Thread nD τ) ucRefs (VE V d) ∗ owesTc (F := F) d)) -∗ |={Set.univ}=> Q ⟨⟩)
        ∗ boundary (d : Thread nD τ) ∗ (StableHlo.held (d : Thread nD τ) ucRefs (V d) ∗ owesTc (F := F) d) ∗ levAts (K (F := F)).L (K (F := F)).lev
        ∗ Pipeline.cellsGhost (Pipeline.pin (pcfgs (F := F)) adm) EP 0 d ∗ Pipeline.toksInit (Pipeline.pin (pcfgs (F := F)) adm) EP 0 d)
      ⊢ wp frame (wpE (D (F := F)) 𝒱 (d : Thread nD τ) none) Set.univ (Prog.lift (.customCall (Pipeline.entry 0) ())) Q := by
  have h := Pipeline.RegionSeg.wp (pcfgs (F := F)) adm (pdats V) (none : HIx 1) cellOf_inj EP defs₀ 𝒱₀ (K (F := F)).L (K (F := F)).lev (reg V) d none
    (fun _ h => nomatch h) (fun _ => .ret (⟨⟩ : PUnit)) Q
  refine BI.Entails.trans ?_ h
  rw [wp_ret]
  exact BI.Entails.refl _

/-- The TensorCore call. -/
theorem main_tc [∀ e, Nonempty (Elt F e)] (κ : GSem nD τ sig → ℕ) (d : Dev nD) :
    iprop((K (F := F)).ctx EH (P A0 A1) κ ∗ (K (F := F)).tcSt EH d 1 ∗ boundary (SparseCore.T d) ∗ StableHlo.held (d : Thread nD τ) ucRefs (W3 m d) ∗ (K (F := F)).tcSems0 d ∗ GH d)
      ⊢ wp frame (wpE ((K (F := F)).defs (D (F := F))) 𝒱 (SparseCore.T d) none) Set.univ tcCall (POST m d) := by
  unfold POST SparseCore.Cfg.tcEnd SparseCore.Cfg.tcSt
  rw [Otc_one]
  iintro ⟨#Hctx, ⟨HO, Hst⟩, Hb, Hub, Hts, HG⟩
  iapply ((K (F := F)).wp_liftProg (D (F := F)) 𝒱 (SparseCore.T d) Set.univ none (Prog.lift (.customCall (Pipeline.entry 0) ())) _)
  iapply (region_wp (W3 m) d _)
  isplitl [Hst Hts]
  · iintro ⟨Hb, Hub, HO⟩
    imodintro
    isplitl [HO Hst]
    · isplitl [HO] <;> iassumption
    isplitl [Hub]; · iexact Hub
    isplitl [Hb] <;> iassumption
  isplitl [Hb]; · iexact Hb
  isplitl [Hub HO]
  · isplitl [Hub] <;> iassumption
  isplitr
  · iapply (SparseCore.Cfg.ctx_levAts κ); iexact Hctx
  iexact HG

/-- The operations between the calls, then the TensorCore call. -/
theorem main_mid [∀ e, Nonempty (Elt F e)] (κ : GSem nD τ sig → ℕ) (d : Dev nD) :
    iprop((K (F := F)).ctx EH (P A0 A1) κ ∗ (K (F := F)).tcSt EH d 1 ∗ boundary (SparseCore.T d) ∗ StableHlo.held (d : Thread nD τ) ucRefs (W2 m d) ∗ (K (F := F)).tcSems0 d ∗ GH d)
      ⊢ wp frame (wpE ((K (F := F)).defs (D (F := F))) 𝒱 (SparseCore.T d) none) Set.univ (StableHlo.seq ops2 >>= fun _ => tcCall) (POST m d) := by
  iintro ⟨#Hctx, Hst, Hb, Hub, Hts, HG⟩
  iapply (StableHlo.wp_seq (defs := (K (F := F)).defs (D (F := F))) (𝒱 := 𝒱) (bd := none) (E := Set.univ) d ucRefs _ ops2
    (fun op h => sub_uc op ((List.forall_iff_forall_mem.mp ops2_sub) op h)) ops2_fresh (W2 m d)) $$ [Hb Hub]
  · isplitl [Hb] <;> iassumption
  iintro ⟨Hb, Hub⟩
  iapply (main_tc m A0 A1 κ d)
  isplitr; · iexact Hctx
  isplitl [Hst]; · iexact Hst
  isplitl [Hb]; · iexact Hb
  isplitl [Hub]; · unfold W3; iexact Hub
  isplitl [Hts]; · iexact Hts
  iexact HG

theorem join_sc (d : Dev nD) :
    iprop(((qLoc d ↦{fullShare} tokQ m d) ∗ (tLoc d ↦{fullShare} tokT m d) ∗ (cqLoc d ↦{fullShare} CQ (tokQ m) d) ∗ (ctLoc d ↦{fullShare} CT (tokT m) d))
      ∗ StableHlo.held (d : Thread nD τ) (ucRefs \ scRefs) (W1 m d)) ⊢ (StableHlo.held (d : Thread nD τ) ucRefs (W2 m d) : sProp 𝕄) := by
  rw [StableHlo.held_sub_split (d : Thread nD τ) scRefs_sub (W2 m d), held_sc, W2_rQ, W2_rT, W2_rCQ, W2_rCT,
    StableHlo.held_congr (d : Thread nD τ) (fun b hb => W2_of_ne m d b (Finset.mem_sdiff.mp hb).2)]

theorem split_sc (d : Dev nD) :
    (StableHlo.held (d : Thread nD τ) ucRefs (W1 m d) : sProp 𝕄)
      ⊢ iprop((bigSep Finset.univ fun c : Fin ((K (F := F)).nCore 0) => (P (tokQ m) (tokT m)).st 0 d c) ∗ StableHlo.held (d : Thread nD τ) (ucRefs \ scRefs) (W1 m d)) := by
  rw [StableHlo.held_sub_split (d : Thread nD τ) scRefs_sub (W1 m d), held_sc]
  iintro ⟨⟨H1, H2, H3, H4⟩, Hrest⟩
  isplitr [Hrest]
  · iapply (st_intro (tokQ m) (tokT m) d)
    isplitl [H1]; · iexact H1
    isplitl [H2]; · iexact H2
    isplitl [H3]
    · iexists _; iexact H3
    iexists _; iexact H4
  iexact Hrest

/-- From the SparseCore call on. -/
theorem main_sc [∀ e, Nonempty (Elt F e)] (κ : GSem nD τ sig → ℕ) (d : Dev nD) :
    iprop((K (F := F)).ctx EH (P (tokQ m) (tokT m)) κ ∗ (K (F := F)).tcSt EH d 0 ∗ boundary (SparseCore.T d) ∗ StableHlo.held (d : Thread nD τ) ucRefs (W1 m d) ∗ (K (F := F)).tcSems0 d ∗ GH d)
      ⊢ wp frame (wpE ((K (F := F)).defs (D (F := F))) 𝒱 (SparseCore.T d) none) Set.univ (sc.run d 0 >>= fun _ => StableHlo.seq ops2 >>= fun _ => tcCall) (POST m d) := by
  rw [wp_bind]
  iintro ⟨#Hctx, Hst, Hb, Hub, Hts, HG⟩
  ihave Hub := (split_sc m d) $$ Hub
  icases Hub with ⟨Hsc, Hrest⟩
  iapply ((K (F := F)).wp_run (D (F := F)) 𝒱 (EH := EH) (P := P (tokQ m) (tokT m)) κ d 0) $$ [Hst Hsc Hrest Hb Hts HG]
  isplitr; · iexact Hctx
  isplitl [Hst]; · iexact Hst
  isplitl [Hsc]; · iexact Hsc
  iintro ⟨Hst, Hdn⟩
  ihave Hdn := (dn_elim (tokQ m) (tokT m) d) $$ Hdn
  ihave Hub := (join_sc m d) $$ [Hdn Hrest]
  · isplitl [Hdn] <;> iassumption
  iapply (main_mid m (tokQ m) (tokT m) κ d)
  isplitr; · iexact Hctx
  isplitl [Hst]; · iexact Hst
  isplitl [Hb]; · iexact Hb
  isplitl [Hub]; · iexact Hub
  isplitl [Hts]; · iexact Hts
  iexact HG

theorem hmain [∀ e, Nonempty (Elt F e)] (κ : GSem nD τ sig → ℕ) (d : Dev nD) :
    iprop((K (F := F)).ctx EH (P (tokQ m) (tokT m)) κ ∗ (K (F := F)).tcSt EH d 0 ∗ (K (F := F)).tcRes m ρ d ∗ GH d)
      ⊢ wp frame (wpE ((K (F := F)).defs (D (F := F))) 𝒱 (SparseCore.T d) none) Set.univ (main d) (POST m d) := by
  rw [main_eq]
  unfold SparseCore.Cfg.tcRes
  rw [show (unscopedBufs d (fun b => m ((SparseCore.T d).loc b)) : sProp 𝕄) = StableHlo.held (d : Thread nD τ) ucRefs (W0 m d) from unscopedBufs_held d (W0 m d)]
  iintro ⟨#Hctx, Hst, ⟨Hb, Hub, Hts, -⟩, HG⟩
  iapply (StableHlo.wp_seq (defs := (K (F := F)).defs (D (F := F))) (𝒱 := 𝒱) (bd := none) (E := Set.univ) d ucRefs _ ops1
    (fun op h => sub_uc op ((List.forall_iff_forall_mem.mp ops1_sub) op h)) ops1_fresh (W0 m d)) $$ [Hb Hub]
  · isplitl [Hb] <;> iassumption
  iintro ⟨Hb, Hub⟩
  iapply (main_sc m κ d)
  isplitr; · iexact Hctx
  isplitl [Hst]; · iexact Hst
  isplitl [Hb]; · iexact Hb
  isplitl [Hub]; · unfold W1; iexact Hub
  isplitl [Hts]; · iexact Hts
  iexact HG

/-! ## The run -/

/-- What the final state says of device `d`. -/
def fq (d : Dev nD) (s' : Phys nD τ sig (Elt F)) : Prop := ∀ b ∈ ucRefs, s'.mem.mem (d, b) = W4 m d b

theorem hfin (d : Dev nD) (s' : Phys nD τ sig (Elt F)) : iprop(FIN m d ∗ SI s') ⊢ (⌜fq m d s'⌝ : sProp 𝕄) := by
  have one : ∀ b : {b // b ∈ ucRefs}, iprop(FIN m d ∗ SI s') ⊢ (⌜s'.mem.mem (d, b.1) = W4 m d b.1⌝ : sProp 𝕄) := fun b => by
    have h : (FIN m d : sProp 𝕄) ⊢ ((d, b.1) ↦{fullShare} W4 m d b.1) := by
      unfold FIN StableHlo.held
      exact bigSep_elim (Φ := fun b => ((d, b) ↦{fullShare} W4 m d b : sProp 𝕄)) b.2
    iintro ⟨H, HSI⟩
    ihave H := h $$ H
    ihave H := (SI_pointsTo_agree (st := s') (ℓ := (d, b.1)) (I := Finset.univ) (q := fullShare) (f := W4 m d b.1)) $$ [HSI H]
    · isplitl [HSI] <;> iassumption
    icases H with %h
    ipureintro; exact funext fun i => h i (Finset.mem_univ i)
  exact ((Laws.forall_intro one).trans Laws.pure_forall.2).trans (Laws.pure_mono fun all b hb => all ⟨b, hb⟩)

/-- Every host buffer ends as `W4` says and every semaphore at zero. -/
def QC : PUnit × MemSt nD τ sig (Elt F) → Prop := fun r => (∀ c : Dev nD, ∀ b ∈ ucRefs, r.2.mem (c, b) = W4 m c b) ∧ r.2.sem = fun _ => 0

theorem run_main [∀ e, Nonempty (Elt F e)] (hpre : TokOK (tokQ m) (tokT m)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (tokQ m) (tokT m)) (A := ∅) facts v₀
    (fun q hq => match q with | 0 => nomatch hq)
    (fun q _ => match q with | 0 => tileObl _ _ facts hpre)
    (fun q _ => match q with | 0 => SparseCore.Cfg.VecSplit.of_plain (vecSplit _ _))
    m ρ main (fun d => GH d) (FIN m) (u₀ (F := F)) (sep_elim_left.trans (hu₀ _ _)) (hmain m ρ) (fq m) (hfin m) (QC m) (fun _ h hz => ⟨h, hz⟩)

end Cert.Proof.Run
-- ==== Proof.Frames.lean ====
/-
  The arguments at the end, the tokens in range from the precondition, and the frames of the two programs.
-/
module

public import proofs.«01_k».proof.Proof.Main
public import proofs.«01_k».proof.Proof.Gen.Kernel
public import proofs.«01_k».proof.Proof.Gen.ReferenceIdeal.Run
public import proofs.«01_k».proof.Proof.Gen.Pre_tokens_in_vocabulary
public import Idealize.ShloMosaic.Lib.ReduceAll

@[expose] public section

noncomputable section

namespace Cert.Proof.Run

open Cert.KernelIdeal Cert.KernelIdeal.Gen Cert.Proof.Counts

open Idealize.ShloMosaic
open Idealize.ShloMosaic.TcCoe
open Idealize.SL.Sem

variable {F : FTy → Type} [FloatOps F]
variable (m : (ℓ : Loc nD τ sig) → Buf (Elt F) ℓ) (ρ : Dev nD → PrngReg)

/-! ## The arguments -/

abbrev wr1 : List (Ref sig .tc) := [main_v0, main_v1]
abbrev wr2 : List (Ref sig .tc) := [main_v3, main_v4, main_cst, main_v5, main_c, main_v6, main_v7, main_v8, main_v9, main_v10, main_v11]

theorem wr_mem {W : List (Ref sig .tc)} {r : Ref sig .tc} (h : r ∈ W) : ({Proc.devRef .tc r} : Finset (DevRef τ sig)) ⊆ (W.map (Proc.devRef (τ := τ) .tc)).toFinset :=
  Finset.singleton_subset_iff.mpr (List.mem_toFinset.mpr (List.mem_map_of_mem h))

theorem ops1_writes : (ops1 (F := F)).Forall fun op => op.writes ⊆ (wr1.map (Proc.devRef (τ := τ) .tc)).toFinset :=
  ⟨wr_mem (r := main_v0) (by decide), wr_mem (r := main_v1) (by decide)⟩
theorem ops2_writes : (ops2 (F := F)).Forall fun op => op.writes ⊆ (wr2.map (Proc.devRef (τ := τ) .tc)).toFinset :=
  ⟨wr_mem (r := main_v3) (by decide), wr_mem (r := main_v4) (by decide), wr_mem (r := main_cst) (by decide), wr_mem (r := main_v5) (by decide), wr_mem (r := main_c) (by decide), wr_mem (r := main_v6) (by decide), wr_mem (r := main_v7) (by decide), wr_mem (r := main_v8) (by decide), wr_mem (r := main_v9) (by decide), wr_mem (r := main_v10) (by decide), wr_mem (r := main_v11) (by decide)⟩

/-- A buffer neither call and no operation writes ends as launched. -/
theorem W4_kept (d : Dev nD) (r : Ref sig .tc) (h1 : r ∉ wr1) (h2 : r ∉ wr2) (hs : (Proc.devRef .tc r : DevRef τ sig) ∉ scRefs) (hw : ∀ w, r ≠ Pipeline.arrRef spec1 w) :
    W4 m d (Proc.devRef .tc r) = m (d, Proc.devRef .tc r) := by
  unfold W4 VE
  rw [Pipeline.afterRegion_of_not_arr (dat (W3 m) d) (W3 m d) hw]
  unfold W3
  rw [StableHlo.after_of_writes_sub ops2 (W2 m d) ops2_writes h2, W2_of_ne m d _ hs]
  unfold W1
  rw [StableHlo.after_of_writes_sub ops1 (W0 m d) ops1_writes h1]
  rfl

theorem mem_uc (r : Ref sig .tc) (h : r.isScoped = false) : (Proc.devRef .tc r : DevRef τ sig) ∈ ucRefs :=
  Finset.mem_filter.mpr ⟨StableHlo.devRef_mem_tcRefs r, fun h' => Bool.false_ne_true (h.symm.trans h')⟩

theorem not_sc (r : Ref sig .tc) (h : r ∉ [main_v0, main_v1, main_v2_0, main_v2_1]) : (Proc.devRef .tc r : DevRef τ sig) ∉ scRefs := by
  simp only [List.mem_cons, List.not_mem_nil, or_false, not_or] at h
  simp only [scRefs, Finset.mem_insert, Finset.mem_singleton, not_or]
  exact ⟨ne_of_ref h.1, ne_of_ref h.2.1, ne_of_ref h.2.2.1, ne_of_ref h.2.2.2⟩

theorem arg_kept (r : MemSt nD τ sig (Elt F)) (d : Dev nD) (h : ∀ b ∈ ucRefs, r.mem (d, b) = W4 m d b) (b : Ref sig .tc)
    (hb : b.isScoped = false) (h1 : b ∉ wr1) (h2 : b ∉ wr2) (hs : b ∉ [main_v0, main_v1, main_v2_0, main_v2_1]) (hw : ∀ w, b ≠ Pipeline.arrRef spec1 w) :
    r.mem (d, Proc.devRef .tc b) = m (d, Proc.devRef .tc b) :=
  (h _ (mem_uc b hb)).trans (W4_kept m d b h1 h2 (not_sc b hs) hw)

/-- The seven arguments end as launched. -/
def Kept (s : MemSt nD τ sig (Elt F)) (c : Dev nD) : Prop :=
  s.mem (c.tc.loc main_arg0) = m (c.tc.loc main_arg0) ∧ s.mem (c.tc.loc main_arg1) = m (c.tc.loc main_arg1) ∧ s.mem (c.tc.loc main_arg2) = m (c.tc.loc main_arg2)
    ∧ s.mem (c.tc.loc main_arg3) = m (c.tc.loc main_arg3) ∧ s.mem (c.tc.loc main_arg4) = m (c.tc.loc main_arg4) ∧ s.mem (c.tc.loc main_arg5) = m (c.tc.loc main_arg5)
    ∧ s.mem (c.tc.loc main_arg6) = m (c.tc.loc main_arg6)

theorem kept_of (s : MemSt nD τ sig (Elt F)) (c : Dev nD) (h : ∀ b ∈ ucRefs, s.mem (c, b) = W4 m c b) : Kept m s c :=
  ⟨arg_kept m s c h main_arg0 (by decide) (by decide) (by decide) (by decide) (by decide), arg_kept m s c h main_arg1 (by decide) (by decide) (by decide) (by decide) (by decide),
    arg_kept m s c h main_arg2 (by decide) (by decide) (by decide) (by decide) (by decide), arg_kept m s c h main_arg3 (by decide) (by decide) (by decide) (by decide) (by decide),
    arg_kept m s c h main_arg4 (by decide) (by decide) (by decide) (by decide) (by decide), arg_kept m s c h main_arg5 (by decide) (by decide) (by decide) (by decide) (by decide),
    arg_kept m s c h main_arg6 (by decide) (by decide) (by decide) (by decide) (by decide)⟩

/-! ## The tokens -/

theorem tokQ_eq (d : Dev nD) : (tokQ m d : IVec S327680 32) = shapeCast S327680 (m (d, Proc.devRef .tc main_arg0) : IVec S16384x20 32) shapeCasts_S16384x20_S327680 := by
  show StableHlo.after ops1 (W0 m d) (Proc.devRef .tc main_v0) = _
  after_results_simp; rfl
theorem tokT_eq (d : Dev nD) : (tokT m d : IVec S3276800 32) = shapeCast S3276800 (m (d, Proc.devRef .tc main_arg1) : IVec S16384x200 32) shapeCasts_S16384x200_S3276800 := by
  show StableHlo.after ops1 (W0 m d) (Proc.devRef .tc main_v1) = _
  after_results_simp; rfl

theorem word_lt (v : BitVec 32) (h1 : IntOp.cmpi .sge v 0#32 = 1#1) (h2 : IntOp.cmpi .slt v 1000#32 = 1#1) : v.toNat < 1000 := by
  have ofBool_eq_one (p : Bool) : (BitVec.ofBool p = 1#1) ↔ p = true := by cases p <;> decide
  simp only [IntOp.cmpi, ofBool_eq_one, BitVec.sle_eq_decide, BitVec.slt_eq_decide,
    decide_eq_true_eq, BitVec.toInt_eq_toNat_cond, BitVec.toNat_ofNat, Nat.reducePow, Nat.reduceMod] at h1 h2
  omega

/-- The precondition gives every token of both arrays below the vocabulary's size. -/
theorem pre_words (a0 : IVec S16384x20 32) (a1 : IVec S16384x200 32) (a2 : FVec F S1000x64 .f32) (a3 : FVec F S64x64 .f32) (a4 : FVec F S64 .f32) (a5 : FVec F S64x64 .f32)
    (a6 : FVec F S64 .f32) (h : Cert.Pre_tokens_in_vocabulary.fn (F := F) a0 a1 a2 a3 a4 a5 a6 = fun _ => 1#1) : (∀ i, (a0 i).toNat < 1000) ∧ ∀ i, (a1 i).toNat < 1000 := by
  have andi_one (p q : BitVec 1) : IntOp.andi p q = 1#1 ↔ p = 1#1 ∧ q = 1#1 := by revert p q; decide
  have e := congrFun h (fun a => a.elim0)
  simp only [Cert.Pre_tokens_in_vocabulary.fn, andi, andi_one] at e
  obtain ⟨⟨⟨e1, e2⟩, e3⟩, e4⟩ := e
  haveI : Subsingleton Cert.Pre_tokens_in_vocabulary.S_.Idx := ⟨fun a b => funext fun x => x.elim0⟩
  exact ⟨fun i => word_lt _ (Host.reduce_andi_all _ _ _ _ _ e1 i) (Host.reduce_andi_all _ _ _ _ _ e2 i),
    fun i => word_lt _ (Host.reduce_andi_all _ _ _ _ _ e3 i) (Host.reduce_andi_all _ _ _ _ _ e4 i)⟩

theorem ok_of_words (h : ∀ d, (∀ i, ((m (d, Proc.devRef .tc main_arg0) : IVec S16384x20 32) i).toNat < 1000) ∧ ∀ i, ((m (d, Proc.devRef .tc main_arg1) : IVec S16384x200 32) i).toNat < 1000) :
    TokOK (tokQ m) (tokT m) := fun d =>
  ⟨fun j => by
      show ((tokQ m d : IVec S327680 32) j).toNat < 1000
      rw [tokQ_eq]; exact (h d).1 _,
    fun j => by
      show ((tokT m d : IVec S3276800 32) j).toNat < 1000
      rw [tokT_eq]; exact (h d).2 _⟩

/-! ## The frames -/

/-- The arguments kept and every counter back at zero, over any float values. -/
theorem frame_any [∀ e, Nonempty (Elt F e)]
    (h : ∀ d, (∀ i, ((m (d, Proc.devRef .tc main_arg0) : IVec S16384x20 32) i).toNat < 1000) ∧ ∀ i, ((m (d, Proc.devRef .tc main_arg1) : IVec S16384x200 32) i).toNat < 1000) :
    θ_run (Cert.KernelIdeal.defs (F := F)) (Cert.KernelIdeal.threads (F := F)) ⟨m, fun _ => 0, ρ⟩ fun r => (∀ c, Kept m r.2 c) ∧ r.2.sem = fun _ => 0 :=
  (θ_run (Cert.KernelIdeal.defs (F := F)) _ _).mono (fun r h => ⟨fun c => kept_of m r.2 c (h.1 c), h.2⟩)
    (run_main m ρ (ok_of_words m h))

theorem frame_ideal : Cert.quiescent_KernelIdeal := fun m ρ hpre =>
  frame_any (F := Ideal) m ρ fun d => pre_words _ _ _ _ _ _ _ (hpre d)

/-- The two prints' kernels are the same programs. -/
theorem kernels_eq : Cert.Kernel.defs₀ (F := Bits) = Cert.KernelIdeal.defs₀ (F := Bits) := by
  funext p ℓ a
  match p, ℓ, a with
  | .tc, 0, a => rfl
  | .tc, 1, (t, s) => rfl
  | .scVector c s, 0, a => rfl
  | .scVector c s, 1, a => rfl
  | .scScalar c, 0, a => rfl
  | .scScalar c, 1, a => rfl
theorem defs_eq : Cert.Kernel.defs (F := Bits) = Cert.KernelIdeal.defs (F := Bits) := by
  show Cert.KernelIdeal.sc.defs (Pipeline.defs Cert.KernelIdeal.pcfgs Cert.Kernel.defs₀) = _
  rw [kernels_eq]; rfl

theorem frame_kernel : Cert.quiescent_Kernel := fun m ρ hpre => by
  rw [defs_eq]
  exact frame_any (F := Bits) m ρ fun d => pre_words _ _ _ _ _ _ _ (hpre d)

theorem frame_reference : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run (F := Ideal) m ρ)

end Cert.Proof.Run
-- ==== Proof.Score.lean ====
/-
  A row's score over the extended reals, as a function of the two summed embeddings, and the TensorCore kernel's block
  read at a row as that function.
-/
module

public import proofs.«01_k».proof.Proof.Dense
public import Idealize.ShloMosaic.Lib.MatmulPlain
public import Idealize.ShloMosaic.Lib.KernelVsHost
public import Idealize.ShloMosaic.Lib.IdealHost

@[expose] public section

noncomputable section

namespace Cert.Proof.Run

open Cert.KernelIdeal Cert.KernelIdeal.Gen Cert.Proof.Counts

open Idealize.ShloMosaic Idealize.ShloMosaic.ValueIdx

/-- A unit of a layer: the hyperbolic tangent of a row times a column plus the bias. -/
def hid (s : Fin 64 → EReal) (w : Fin 64 → Fin 64 → EReal) (b : Fin 64 → EReal) (h : Fin 64) : EReal :=
  Ideal.tanh ((∑ k, s k * w k h) + b h)

/-- The scaled cosine of two rows. -/
def cosine (q t : Fin 64 → EReal) : EReal :=
  (Ideal.div (∑ h, q h * t h) (Ideal.sqrt (∑ h, q h * q h) * Ideal.sqrt (∑ h, t h * t h) + Ideal.ofBits .f32 0x2B8CBCCC#32) + 1)
    * Ideal.ofBits .f32 0x3F000000#32

/-- Halving is multiplying by a half. -/
theorem div_two (x : EReal) : Ideal.div x (Ideal.ofBits .f32 0x40000000#32) = x * Ideal.ofBits .f32 0x3F000000#32 := by
  have h2 : Ideal.ofBits .f32 0x40000000#32 = ((2 : ℝ) : EReal) := by
    simp [Ideal.ofBits, Ideal.ieee, -EReal.coe_mul]; norm_num
  have hh : Ideal.ofBits .f32 0x3F000000#32 = (((2 : ℝ)⁻¹ : ℝ) : EReal) := by
    simp [Ideal.ofBits, Ideal.ieee, -EReal.coe_mul]; norm_num
  rw [h2, hh, Ideal.div, if_neg (by norm_num), EReal.coe_inv]

/-- A plain product onto zero, read at an entry. -/
theorem matmul_at {M K N : ℕ} (prec : Option ContractPrecision) (lhs : FVec Ideal ⟨2, ![M, K]⟩ .f32) (rhs : FVec Ideal ⟨2, ![K, N]⟩ .f32) (r : Fin M) (c : Fin N) :
    matmul (DotDims.plain M K N) prec lhs rhs (constant ⟨2, ![M, N]⟩ .f32 0x00000000#32) (ix2 r c) = ∑ k : Fin K, lhs (ix2 r k) * rhs (ix2 k c) := by
  show FloatOps.matmul (DotDims.plain M K N) prec lhs rhs _ (ix2 r c) = _
  rw [Ideal.matmul_plain_apply]
  show Ideal.ofBits .f32 0x00000000#32 + _ = _
  rw [Ideal.ofBits_zero_f32, zero_add]

theorem cast_self {α : Type} {s : Shape} (x : s.Idx → α) (h : s.ShapeCasts s) : shapeCast s x h = x :=
  funext fun j => shapeCast_apply x h j j rfl

/-- The hidden layer's block, at a row and a unit. -/
theorem hidden_at (cq : FVec Ideal S1024x1024 .f32) (tab : FVec Ideal S1024x64 .f32) (w : FVec Ideal S64x64 .f32) (b : FVec Ideal S1x64 .f32) (r : Fin 1024) (h : Fin 64) :
    k1_pay2 (F := Ideal) cq tab w b (ix2 r h)
      = hid (fun d => ∑ k : Fin 1024, cq (ix2 r k) * tab (ix2 k d)) (fun k h => w (ix2 k h)) (fun h => b (ix2 0 h)) h := by
  unfold k1_pay2
  simp only [cast_self]
  show Ideal.tanh (matmul (F := Ideal) (DotDims.plain 1024 64 64) none (matmul (F := Ideal) (DotDims.plain 1024 1024 64) none cq tab (constant S1024x64 .f32 0x00000000#32)) w (constant S1024x64 .f32 0x00000000#32) (ix2 r h)
    + broadcastTo S1024x64 b broadcasts_S1x64_S1024x64 (ix2 r h)) = _
  rw [matmul_at, broadcastTo_apply b broadcasts_S1x64_S1024x64 (ix2 r h) (ix2 0 h) (by intro a; match a with | 0 => rfl | 1 => rfl)]
  unfold hid
  congr 2
  exact Finset.sum_congr rfl fun k _ => congrArg (· * _) (matmul_at none cq tab r k)

/-- A sum along the rows of a block, at a row. -/
theorem rowsum_at (x : FVec Ideal S1024x64 .f32) (r : Fin 1024) :
    shapeCast S1024x1 (multiReduction (F := Ideal) .add [1] S1024 x 0x00000000#32 reduces_S1024x64_S1024 (.inl rfl) rfl) shapeCasts_S1024_S1024x1 (ix2 r 0)
      = ∑ h : Fin 64, x (ix2 r h) := by
  rw [shapeCast_apply _ shapeCasts_S1024_S1024x1 (ix2 r 0) (ix1 r) (by rw [Shape.rowMajor_val_one, Shape.rowMajor_val_two]; show r.val = r.val * 1 + 0; omega)]
  refine (Ideal.multiReduction_add_single x _ reduces_S1024x64_S1024 _ _ (ix1 r)).trans ?_
  refine Finset.sum_congr rfl fun h _ => congrArg x (funext fun a => ?_)
  match a with
  | 0 => rfl
  | 1 => rfl

/-- The block of scores at a row. -/
theorem score_at (cq ct : FVec Ideal S1024x1024 .f32) (tab : FVec Ideal S1024x64 .f32) (wq : FVec Ideal S64x64 .f32) (bq : FVec Ideal S1x64 .f32)
    (wt : FVec Ideal S64x64 .f32) (bt : FVec Ideal S1x64 .f32) (r : Fin 1024) :
    score (F := Ideal) cq ct tab wq bq wt bt (ix2 r 0)
      = cosine (hid (fun d => ∑ k : Fin 1024, cq (ix2 r k) * tab (ix2 k d)) (fun k h => wq (ix2 k h)) (fun h => bq (ix2 0 h)))
          (hid (fun d => ∑ k : Fin 1024, ct (ix2 r k) * tab (ix2 k d)) (fun k h => wt (ix2 k h)) (fun h => bt (ix2 0 h))) := by
  have e4 : k1_pay4 (F := Ideal) cq tab ct tab wq bq wt bt (ix2 r 0) = ∑ h : Fin 64, k1_pay2 (F := Ideal) cq tab wq bq (ix2 r h) * k1_pay2 (F := Ideal) ct tab wt bt (ix2 r h) :=
    rowsum_at _ r
  have e5 : k1_pay5 (F := Ideal) cq tab wq bq (ix2 r 0) = Ideal.sqrt (∑ h : Fin 64, k1_pay2 (F := Ideal) cq tab wq bq (ix2 r h) * k1_pay2 (F := Ideal) cq tab wq bq (ix2 r h)) :=
    congrArg Ideal.sqrt (rowsum_at _ r)
  have e6 : k1_pay6 (F := Ideal) ct tab wt bt (ix2 r 0) = ∑ h : Fin 64, k1_pay2 (F := Ideal) ct tab wt bt (ix2 r h) * k1_pay2 (F := Ideal) ct tab wt bt (ix2 r h) :=
    rowsum_at _ r
  simp only [hidden_at] at e4 e5 e6
  show (Ideal.div (k1_pay4 (F := Ideal) cq tab ct tab wq bq wt bt (ix2 r 0)) (k1_pay5 (F := Ideal) cq tab wq bq (ix2 r 0) * Ideal.sqrt (k1_pay6 (F := Ideal) ct tab wt bt (ix2 r 0)) + Ideal.ofBits .f32 0x2B8CBCCC#32)
    + Ideal.ofBits .f32 0x3F800000#32) * Ideal.ofBits .f32 0x3F000000#32 = _
  rw [e4, e5, e6, Ideal.ofBits_one_f32]
  rfl

end Cert.Proof.Run
-- ==== Proof.CountSum.lean ====
/-
  A row of counts times a table of vectors is the sum, over the row's tokens, of the vectors they name.
-/
module

public import proofs.«01_k».proof.Proof.Score
public import proofs.«01_k».proof.Proof.Spec

@[expose] public section

noncomputable section

namespace Cert.Proof.Counts

open Idealize.ShloMosaic Idealize.ShloMosaic.ValueIdx

/-- Counting up from zero over the extended reals. -/
theorem inc_iter (n : ℕ) : ((inc (F := Ideal))^[n] zero : EReal) = (n : EReal) := by
  induction n with
  | zero => show Ideal.ofBits .f32 0x00000000#32 = _; rw [Ideal.ofBits_zero_f32]; simp
  | succ n ih =>
    rw [Function.iterate_succ_apply']
    show ((inc (F := Ideal))^[n] zero : EReal) + Ideal.ofBits .f32 0x3F800000#32 = _
    rw [ih, Ideal.ofBits_one_f32]
    push_cast
    rfl

/-- The tokens of a chunk that name row `e`'s word `v` are those of row `e` that are `v`. -/
theorem count_row {LQ : ℕ} (T : ℕ → ℕ) (hT : ∀ w, T w < 1000) {e v : ℕ} (he : e < 32) (hv : v < 1024) :
    Nat.count (fun w => tgt LQ T w = e * 1024 + v) (32 * LQ) = (Finset.univ.filter fun j : Fin LQ => T (e * LQ + j.val) = v).card := by
  rw [Nat.count_eq_card_filter_range]
  symm
  refine Finset.card_bij (fun j _ => e * LQ + j.val) ?_ ?_ ?_
  · intro j hj
    have h1 := (Finset.mem_filter.mp hj).2
    have hd : (e * LQ + j.val) / LQ = e := by
      have := j.isLt
      rw [Nat.mul_comm, Nat.mul_add_div (by omega), Nat.div_eq_of_lt this, Nat.add_zero]
    refine Finset.mem_filter.mpr ⟨Finset.mem_range.mpr ?_, ?_⟩
    · have := j.isLt
      calc e * LQ + j.val < e * LQ + LQ := by omega
        _ = (e + 1) * LQ := by ring
        _ ≤ 32 * LQ := Nat.mul_le_mul_right _ he
    · show (e * LQ + j.val) / LQ * 1024 + T (e * LQ + j.val) = _
      rw [hd, h1]
  · intro a _ b _ h
    apply Fin.ext
    have h : e * LQ + a.val = e * LQ + b.val := h
    omega
  · intro w hw
    obtain ⟨hr, ht⟩ := Finset.mem_filter.mp hw
    have hr := Finset.mem_range.mp hr
    have ht : w / LQ * 1024 + T w = e * 1024 + v := ht
    have := hT w
    have hd : w / LQ = e := by omega
    have hL : 0 < LQ := by
      rcases Nat.eq_zero_or_pos LQ with h | h
      · subst h; omega
      · exact h
    have hw' : e * LQ + w % LQ = w := by rw [← hd, Nat.mul_comm]; exact Nat.div_add_mod w LQ
    refine ⟨⟨w % LQ, Nat.mod_lt _ hL⟩, Finset.mem_filter.mpr ⟨Finset.mem_univ _, ?_⟩, hw'⟩
    show T (e * LQ + w % LQ) = v
    rw [hw']; omega

/-- The counts of a row's tokens weigh a function of the words to the sum over the tokens. -/
theorem weighed {LQ : ℕ} (g : Fin LQ → Fin 1024) (f : Fin 1024 → EReal) :
    ∑ v : Fin 1024, (((Finset.univ.filter fun j => g j = v).card : ℕ) : EReal) * f v = ∑ j, f (g j) := by
  rw [← Finset.sum_fiberwise Finset.univ g fun j => f (g j)]
  refine Finset.sum_congr rfl fun v _ => ?_
  rw [← EReal.nsmul_eq_mul, ← Finset.sum_const]
  exact Finset.sum_congr rfl fun j hj => by rw [(Finset.mem_filter.mp hj).2]

theorem wd_lt {n : ℕ} (A : (⟨1, ![n]⟩ : Shape).Idx → BitVec 32) (hA : ∀ j, (A j).toNat < 1000) (w : ℕ) : wd A w < 1000 := by
  unfold wd
  split
  · exact hA _
  · decide

/-- A row of the table of counts, times a function of the words. -/
theorem tbl_sum {C M : ℕ} (hM : M = 16384 * C) (tok : IVec ⟨2, ![16384, C]⟩ 32) (hs : (⟨2, ![16384, C]⟩ : Shape).ShapeCasts ⟨1, ![M]⟩)
    (htok : ∀ i, (tok i).toNat < 1000) (R : Fin 16384) (f : Fin 1024 → EReal) :
    ∑ v : Fin 1024, (tbl (F := Ideal) (N := 16777216) C (shapeCast ⟨1, ![M]⟩ tok hs) (ix1 ⟨R.val * 1024 + v.val, by have := R.isLt; have := v.isLt; omega⟩) : EReal) * f v
      = ∑ j : Fin C, f ⟨(tok (ix2 R j)).toNat, (htok _).trans (by decide)⟩ := by
  subst hM
  have hA : ∀ j, (shapeCast ⟨1, ![16384 * C]⟩ tok hs j).toNat < 1000 := fun j => htok _
  have hR := R.isLt
  -- the word of row `R`'s token `j`
  have hw (j : Fin C) : wd (shapeCast ⟨1, ![16384 * C]⟩ tok hs) (R.val / 32 * (32 * C) + (R.val % 32 * C + j.val)) = (tok (ix2 R j)).toNat := by
    have e : R.val / 32 * (32 * C) + (R.val % 32 * C + j.val) = R.val * C + j.val := by
      have : R.val = 32 * (R.val / 32) + R.val % 32 := (Nat.div_add_mod _ _).symm
      calc _ = (32 * (R.val / 32) + R.val % 32) * C + j.val := by ring
        _ = _ := by rw [← this]
    have hlt : R.val * C + j.val < 16384 * C := by
      have := j.isLt
      calc R.val * C + j.val < R.val * C + C := by omega
        _ = (R.val + 1) * C := by ring
        _ ≤ 16384 * C := Nat.mul_le_mul_right _ hR
    rw [e]
    unfold wd
    rw [dif_pos hlt]
    refine congrArg BitVec.toNat (shapeCast_apply tok hs _ (ix2 R j) ?_)
    rw [Shape.rowMajor_val_one, Shape.rowMajor_val_two]
    rfl
  rw [← weighed (fun j => ⟨(tok (ix2 R j)).toNat, (htok _).trans (by decide)⟩) f]
  refine Finset.sum_congr rfl fun v _ => congrArg (· * f v) ?_
  have hv := v.isLt
  have e1 : (R.val * 1024 + v.val) / 32768 = R.val / 32 := by omega
  have e2 : (R.val * 1024 + v.val) % 32768 = R.val % 32 * 1024 + v.val := by omega
  show ((inc (F := Ideal))^[Nat.count (fun w => tgt C (fun w => wd (shapeCast ⟨1, ![16384 * C]⟩ tok hs) ((R.val * 1024 + v.val) / 32768 * (32 * C) + w)) w = (R.val * 1024 + v.val) % 32768) (32 * C)] zero : EReal) = _
  rw [inc_iter, e1, e2, count_row _ (fun w => wd_lt _ hA _) (Nat.mod_lt _ (by decide)) hv]
  refine congrArg (fun n : ℕ => (n : EReal)) (congrArg Finset.card ?_)
  refine Finset.filter_congr fun j _ => ?_
  rw [hw j]
  exact ⟨fun h => Fin.ext h, fun h => congrArg Fin.val h⟩

end Cert.Proof.Counts
-- ==== Proof.Arrays.lean ====
/-
  What the TensorCore call reads and leaves: its windows' blocks at an entry, the arrays the host hands it, and the
  result's array row by row.
-/
module

public import proofs.«01_k».proof.Proof.Frames
public import proofs.«01_k».proof.Proof.CountSum
public import Idealize.ShloMosaic.Lib.Routing.OpsSet

@[expose] public section

noncomputable section

namespace Cert.Proof.Run

open Cert.KernelIdeal Cert.KernelIdeal.Gen Cert.Proof.Counts

open Idealize.ShloMosaic Idealize.ShloMosaic.ValueIdx
open Idealize.ShloMosaic.TcCoe
open Idealize.SL.Sem
open Idealize.ShloMosaic.Pipeline (Dat)

/-! ## The windows' blocks -/

theorem idx0 : ∀ t : Fin grid1.N, win1_0.index t 0 = t.val ∧ win1_0.index t 1 = 0 := by decide +kernel
theorem idx1 : ∀ t : Fin grid1.N, win1_1.index t 0 = t.val ∧ win1_1.index t 1 = 0 := by decide +kernel
theorem idx7 : ∀ t : Fin grid1.N, win1_7.index t 0 = t.val ∧ win1_7.index t 1 = 0 := by decide +kernel
theorem N16 : cfg1.N = 16 := by decide

section Blocks
variable {F : FTy → Type} [FloatOps F]
variable (V : Valuation τ sig (Elt F)) (t : Fin cfg1.N)

theorem t_lt : t.val < 16 := N16 ▸ t.isLt

/-- Row `a` of the point's block is row `t * 1024 + a` of the array. -/
abbrev rowOf (a : Fin 1024) : Fin 16384 := ⟨t.val * 1024 + a.val, by have := t_lt t; have := a.isLt; omega⟩

set_option backward.isDefEq.respectTransparency.types false in
theorem blk0_at (a b : Fin 1024) : (blk V 0 t : Vec F S1024x1024 .f32) (ix2 a b) = (V (Proc.devRef .tc main_v3) : Vec F S16384x1024 .f32) (ix2 (rowOf t a) b) := by
  refine congrArg (V (Proc.devRef .tc main_v3) : Vec F S16384x1024 .f32) (funext fun x => Fin.ext ?_)
  match x with
  | 0 => show win1_0.index t 0 * 1024 + 1 * a.val = t.val * 1024 + a.val; rw [(idx0 t).1]; omega
  | 1 => show win1_0.index t 1 * 1024 + 1 * b.val = b.val; rw [(idx0 t).2]; omega

set_option backward.isDefEq.respectTransparency.types false in
theorem blk1_at (a b : Fin 1024) : (blk V 1 t : Vec F S1024x1024 .f32) (ix2 a b) = (V (Proc.devRef .tc main_v4) : Vec F S16384x1024 .f32) (ix2 (rowOf t a) b) := by
  refine congrArg (V (Proc.devRef .tc main_v4) : Vec F S16384x1024 .f32) (funext fun x => Fin.ext ?_)
  match x with
  | 0 => show win1_1.index t 0 * 1024 + 1 * a.val = t.val * 1024 + a.val; rw [(idx1 t).1]; omega
  | 1 => show win1_1.index t 1 * 1024 + 1 * b.val = b.val; rw [(idx1 t).2]; omega

set_option backward.isDefEq.respectTransparency.types false in
theorem blk2_at : (blk V 2 t : Vec F S1024x64 .f32) = (V (Proc.devRef .tc main_v7) : Vec F S1024x64 .f32) := by
  funext j
  refine congrArg (V (Proc.devRef .tc main_v7) : Vec F S1024x64 .f32) (funext fun x => Fin.ext ?_)
  match x with
  | 0 => show 0 * 1024 + 1 * (j 0).val = (j 0).val; omega
  | 1 => show 0 * 64 + 1 * (j 1).val = (j 1).val; omega

set_option backward.isDefEq.respectTransparency.types false in
theorem blk3_at : (blk V 3 t : Vec F S64x64 .f32) = (V (Proc.devRef .tc main_v8) : Vec F S64x64 .f32) := by
  funext j
  refine congrArg (V (Proc.devRef .tc main_v8) : Vec F S64x64 .f32) (funext fun x => Fin.ext ?_)
  match x with
  | 0 => show 0 * 64 + 1 * (j 0).val = (j 0).val; omega
  | 1 => show 0 * 64 + 1 * (j 1).val = (j 1).val; omega

set_option backward.isDefEq.respectTransparency.types false in
theorem blk4_at : (blk V 4 t : Vec F S1x64 .f32) = (V (Proc.devRef .tc main_v9) : Vec F S1x64 .f32) := by
  funext j
  refine congrArg (V (Proc.devRef .tc main_v9) : Vec F S1x64 .f32) (funext fun x => Fin.ext ?_)
  match x with
  | 0 => show 0 * 1 + 1 * (j 0).val = (j 0).val; omega
  | 1 => show 0 * 64 + 1 * (j 1).val = (j 1).val; omega

set_option backward.isDefEq.respectTransparency.types false in
theorem blk5_at : (blk V 5 t : Vec F S64x64 .f32) = (V (Proc.devRef .tc main_v10) : Vec F S64x64 .f32) := by
  funext j
  refine congrArg (V (Proc.devRef .tc main_v10) : Vec F S64x64 .f32) (funext fun x => Fin.ext ?_)
  match x with
  | 0 => show 0 * 64 + 1 * (j 0).val = (j 0).val; omega
  | 1 => show 0 * 64 + 1 * (j 1).val = (j 1).val; omega

set_option backward.isDefEq.respectTransparency.types false in
theorem blk6_at : (blk V 6 t : Vec F S1x64 .f32) = (V (Proc.devRef .tc main_v11) : Vec F S1x64 .f32) := by
  funext j
  refine congrArg (V (Proc.devRef .tc main_v11) : Vec F S1x64 .f32) (funext fun x => Fin.ext ?_)
  match x with
  | 0 => show 0 * 1 + 1 * (j 0).val = (j 0).val; omega
  | 1 => show 0 * 64 + 1 * (j 1).val = (j 1).val; omega

/-! ## The result's array -/

/-- The scores, row by row: row `R` is row `R % 1024` of point `R / 1024`'s block. -/
def scores : FVec F S16384x1 .f32 := fun i =>
  scoreAt V ⟨(i 0).val / 1024, by rw [N16]; have : (i 0).val < 16384 := (i 0).isLt; omega⟩ (ix2 ⟨(i 0).val % 1024, Nat.mod_lt _ (by decide)⟩ 0)

theorem scores_at (a : Fin 1024) : scores V (ix2 (rowOf t a) 0) = scoreAt V t (ix2 a 0) := by
  have ha := a.isLt
  have e1 : (⟨(t.val * 1024 + a.val) / 1024, lt_of_lt_of_eq (by have := t_lt t; omega) N16.symm⟩ : Fin cfg1.N) = t := Fin.ext (show (t.val * 1024 + a.val) / 1024 = t.val by omega)
  have e2 : (⟨(t.val * 1024 + a.val) % 1024, Nat.mod_lt _ (by decide)⟩ : Fin 1024) = a := Fin.ext (show (t.val * 1024 + a.val) % 1024 = a.val by omega)
  show scoreAt V ⟨(t.val * 1024 + a.val) / 1024, _⟩ (ix2 ⟨(t.val * 1024 + a.val) % 1024, _⟩ 0) = _
  rw [e1, e2]

end Blocks

section Result
variable {F : FTy → Type} [FloatOps F]
variable (V : Dev nD → Valuation τ sig (Elt F)) (c : Dev nD)

set_option backward.isDefEq.respectTransparency.types false in
theorem flushed7 (t : Fin cfg1.N) : (dat V c).flushed 7 t = (win1_7.blk t).view.read (Elt F) (scores (V c)) := by
  funext (j : S1024x1.Idx)
  have hj : j = ix2 (j 0 : Fin 1024) (0 : Fin 1) := by
    funext x
    match x with
    | 0 => rfl
    | 1 => exact Subsingleton.elim (α := Fin 1) _ _
  have h1 : (dat V c).flushed 7 t j = scoreAt (V c) t j := rfl
  have h2 : (win1_7.blk t).view.read (Elt F) (scores (V c)) j = scores (V c) (ix2 (rowOf t (j 0)) 0) := by
    refine congrArg (scores (V c)) (funext fun x => ?_)
    match x with
    | 0 => refine Fin.ext ?_; show win1_7.index t 0 * 1024 + 1 * (j 0).val = t.val * 1024 + (j 0).val; rw [(idx7 t).1]; omega
    | 1 => exact Subsingleton.elim (α := Fin 1) _ _
  rw [h1, h2, scores_at]
  exact congrArg (scoreAt (V c) t) hj

set_option backward.isDefEq.respectTransparency.types false in
theorem cover7 (i : S16384x1.Idx) : ∃ t : Fin cfg1.N, (cfg1.win 7).flush t = true ∧ i ∈ ((cfg1.win 7).blk t).view.set := by
  have h0 : (i 0).val < 16384 := (i 0).isLt
  have h1 : (i 1).val < 1 := (i 1).isLt
  refine ⟨⟨(i 0).val / 1024, by rw [N16]; omega⟩, flush1_7 _, ?_⟩
  generalize ht : (⟨(i 0).val / 1024, _⟩ : Fin cfg1.N) = t
  have ht : (i 0).val / 1024 = t.val := congrArg Fin.val ht
  show i ∈ ((View.whole main_v12).slice (win1_7.rect t)).set
  rw [View.set_slice_whole, Rect.mem_set_unit]
  intro x
  match x with
  | ⟨0, _⟩ =>
    show win1_7.index t 0 * 1024 ≤ (i 0).val ∧ (i 0).val < win1_7.index t 0 * 1024 + 1024
    rw [(idx7 t).1]; omega
  | ⟨1, _⟩ =>
    show win1_7.index t 1 * 1 ≤ (i 1).val ∧ (i 1).val < win1_7.index t 1 * 1 + 1
    rw [(idx7 t).2]; omega

set_option backward.isDefEq.respectTransparency.types false in
/-- The region leaves the scores in the result's array. -/
theorem VE_result : (VE V c (Proc.devRef .tc main_v12) : FVec F S16384x1 .f32) = scores (V c) :=
  (Pipeline.afterRegion_arr (dat V c) (V c) launch1.win.arr_inj 7).trans
    ((dat V c).arrAt_eq_of_cover 7 (scores (V c)) (fun t _ => flushed7 V c t) cover7)

end Result

end Cert.Proof.Run
-- ==== Proof.RefValue.lean ====
/-
  The reference's result at a row: the scaled cosine of the two hidden layers on the summed embeddings of the row's tokens.
-/
module

public import proofs.«01_k».proof.Proof.Score
public import proofs.«01_k».proof.Proof.Gen.ReferenceIdeal.Run
public import Idealize.ShloMosaic.Lib.ReduceAll
public import Idealize.ShloMosaic.Lib.ValueIdxCore

@[expose] public section

noncomputable section

namespace Cert.Proof.Run.Ref

open Cert.ReferenceIdeal Cert.ReferenceIdeal.Gen

open Idealize.ShloMosaic Idealize.ShloMosaic.TcCoe Idealize.ShloMosaic.ValueIdx

/-- The dimension numbers of a gather of whole rows of the embedding, one per token. -/
abbrev rowsDims (C : ℕ) (wf : GatherDims.WF ⟨2, ![1000, 64]⟩ ⟨3, ![16384, C, 1]⟩ ⟨3, ![16384, C, 64]⟩ [2] [0] [] [0] [] 2 ![1, 64]) :
    GatherDims ⟨2, ![1000, 64]⟩ ⟨3, ![16384, C, 1]⟩ ⟨3, ![16384, C, 64]⟩ where
  offsetDims := [2]
  collapsedSliceDims := [0]
  operandBatchingDims := []
  startIndicesBatchingDims := []
  startIndexMap := [0]
  indexVectorDim := 2
  sliceSizes := ![1, 64]
  wf := wf

/-- The gather read at an entry: the token's row, at the entry's column. -/
theorem rows_at {C : ℕ} (wf : GatherDims.WF ⟨2, ![1000, 64]⟩ ⟨3, ![16384, C, 1]⟩ ⟨3, ![16384, C, 64]⟩ [2] [0] [] [0] [] 2 ![1, 64])
    (x : FVec Ideal ⟨2, ![1000, 64]⟩ .f32) (idx : IVec ⟨3, ![16384, C, 1]⟩ 32) (r : Fin 16384) (c : Fin C) (d : Fin 64) :
    Host.gather (rowsDims C wf) x idx (ix3 r c d) = x (ix2 ⟨min (idx (ix3 r c 0)).toInt.toNat 999, by omega⟩ d) := by
  unfold Host.gather
  refine congrArg x (funext fun a => Fin.ext ?_)
  show (rowsDims C wf).start (ix3 r c d) idx a + (rowsDims C wf).batchCoord (ix3 r c d) a + (rowsDims C wf).offCoord (ix3 r c d) a = _
  rw [GatherDims.batchCoord_eq_zero _ _ _ List.not_mem_nil, Nat.add_zero]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl)), Nat.add_zero]
    unfold GatherDims.start
    rw [dif_pos (show (0 : Fin 2) ∈ (rowsDims C wf).startIndexMap from List.mem_singleton.mpr rfl)]
    have hsi : (rowsDims C wf).siIdx (ix3 r c d) ⟨List.idxOf (0 : Fin 2) (rowsDims C wf).startIndexMap,
        List.idxOf_lt_length_iff.2 (List.mem_singleton.mpr rfl)⟩ = ix3 r c 0 := by
      funext b; refine Fin.ext ?_
      match b with
      | ⟨0, _⟩ => rfl
      | ⟨1, _⟩ => rfl
      | ⟨2, _⟩ => rfl
    rw [hsi]
    rfl
  · have h0 : (rowsDims C wf).start (ix3 r c d) idx 1 = 0 := by
      unfold GatherDims.start
      rw [dif_neg (show (1 : Fin 2) ∉ ([0] : List (Fin 2)) by decide)]
    rw [h0, Nat.zero_add]
    rfl

section Sums

variable (C : ℕ) (bA : (⟨2, ![16384, C]⟩ : Shape).BroadcastsInDim ⟨3, ![16384, C, 64]⟩ ![0, 1]) (bB : (⟨2, ![16384, C]⟩ : Shape).BroadcastsInDim ⟨3, ![16384, C, 1]⟩ ![0, 1])
  (bS : (⟨0, ![]⟩ : Shape).BroadcastsInDim ⟨2, ![16384, C]⟩ ![]) (bS1 : (⟨0, ![]⟩ : Shape).BroadcastsInDim ⟨3, ![16384, C, 1]⟩ ![])
  (bE : (⟨1, ![1]⟩ : Shape).BroadcastsInDim ⟨3, ![1, 1, 1]⟩ ![2]) (bF : (⟨3, ![1, 1, 1]⟩ : Shape).BroadcastsInDim ⟨3, ![16384, C, 1]⟩ ![0, 1, 2])
  (bG : (⟨0, ![]⟩ : Shape).BroadcastsInDim ⟨3, ![16384, C, 64]⟩ ![]) (rA : (⟨3, ![16384, C, 1]⟩ : Shape).ReducesTo [2] ⟨2, ![16384, C]⟩)
  (rB : (⟨3, ![16384, C, 64]⟩ : Shape).ReducesTo [1] ⟨2, ![16384, 64]⟩) (h0 : 0 < (⟨0, ![]⟩ : Shape).numel)
  (wf : GatherDims.WF ⟨2, ![1000, 64]⟩ ⟨3, ![16384, C, 1]⟩ ⟨3, ![16384, C, 64]⟩ [2] [0] [] [0] [] 2 ![1, 64])

/-- The tokens as the lookup normalises them. -/
abbrev wrapped (tok : IVec ⟨2, ![16384, C]⟩ 32) : IVec ⟨2, ![16384, C]⟩ 32 :=
  select (cmpi .slt tok (broadcastInDim ⟨2, ![16384, C]⟩ ![] bS (constantI ⟨0, ![]⟩ 32 0#32))) (addi tok (broadcastInDim ⟨2, ![16384, C]⟩ ![] bS (constantI ⟨0, ![]⟩ 32 1000#32))) tok

/-- The rows' summed embeddings, as the reference reads them of normalised tokens. -/
abbrev summed (tok : IVec ⟨2, ![16384, C]⟩ 32) (emb : FVec Ideal ⟨2, ![1000, 64]⟩ .f32) : FVec Ideal ⟨2, ![16384, 64]⟩ .f32 :=
  Host.reduceAdd (select (broadcastInDim ⟨3, ![16384, C, 64]⟩ ![0, 1] bA
      (Host.reduce IntOp.andi (andi (cmpi .sge (broadcastInDim ⟨3, ![16384, C, 1]⟩ ![0, 1] bB tok) (broadcastInDim ⟨3, ![16384, C, 1]⟩ ![] bS1 (constantI ⟨0, ![]⟩ 32 0#32)))
        (cmpi .sle (broadcastInDim ⟨3, ![16384, C, 1]⟩ ![0, 1] bB tok) (broadcastInDim ⟨3, ![16384, C, 1]⟩ ![0, 1, 2] bF (broadcastInDim ⟨3, ![1, 1, 1]⟩ ![2] bE (constantI ⟨1, ![1]⟩ 32 999#32)))))
        (constantI ⟨0, ![]⟩ 1 1#1) rA h0))
    (Host.gather (rowsDims C wf) emb (broadcastInDim ⟨3, ![16384, C, 1]⟩ ![0, 1] bB tok))
    (broadcastInDim ⟨3, ![16384, C, 64]⟩ ![] bG (constant (F := Ideal) ⟨0, ![]⟩ .f32 0x7FC00000#32)))
    (constant (F := Ideal) ⟨0, ![]⟩ .f32 0x00000000#32) rB h0

theorem toInt_word {x : BitVec 32} (h : x.toNat < 1000) : x.toInt = (x.toNat : ℤ) :=
  BitVec.toInt_eq_toNat_of_lt (by omega)

theorem wrapped_eq (tok : IVec ⟨2, ![16384, C]⟩ 32) (h : ∀ i, (tok i).toNat < 1000) : wrapped C bS tok = tok := by
  funext i
  have hc : IntOp.cmpi .slt (tok i) 0#32 = 0#1 := by
    unfold IntOp.cmpi
    have : (tok i).slt 0#32 = false := by
      rw [BitVec.slt_eq_decide, toInt_word (h i)]
      exact decide_eq_false (by simp)
    simp only [this]; rfl
  show (if IntOp.cmpi .slt (tok i) 0#32 = 1#1 then _ else tok i) = tok i
  rw [hc]
  exact if_neg (by decide)

theorem summed_at (hC : 1 < C) (tok : IVec ⟨2, ![16384, C]⟩ 32) (emb : FVec Ideal ⟨2, ![1000, 64]⟩ .f32) (h : ∀ i, (tok i).toNat < 1000)
    (rB' : (⟨3, ![16384, C, 64]⟩ : Shape).Reduces [1] ⟨2, ![16384, 64]⟩) (r : Fin 16384) (d : Fin 64) :
    summed C bA bB bS1 bE bF bG rA rB h0 wf tok emb (ix2 r d) = ∑ j : Fin C, emb (ix2 ⟨(tok (ix2 r j)).toNat, h _⟩ d) := by
  -- the tokens with a last axis of one
  have hb (i : (⟨3, ![16384, C, 1]⟩ : Shape).Idx) : ∃ k, broadcastInDim ⟨3, ![16384, C, 1]⟩ ![0, 1] bB tok i = tok k := ⟨_, rfl⟩
  have hb0 (j : Fin C) : broadcastInDim ⟨3, ![16384, C, 1]⟩ ![0, 1] bB tok (ix3 r j 0) = tok (ix2 r j) :=
    broadcastInDim_apply ![0, 1] bB tok (ix3 r j 0) (ix2 r j) (by
      intro a
      match a with
      | 0 => exact (if_neg (by show ¬ 16384 = 1; decide)).symm
      | 1 => exact (if_neg (by show ¬ C = 1; omega)).symm)
  have hok (k : (⟨2, ![16384, C]⟩ : Shape).Idx) : IntOp.andi (IntOp.cmpi .sge (tok k) 0#32) (IntOp.cmpi .sle (tok k) 999#32) = 1#1 := by
    have h1 : (0#32 : BitVec 32).sle (tok k) = true := by
      rw [BitVec.sle_eq_decide, toInt_word (h k)]
      exact decide_eq_true (by simp)
    have h2 : (tok k).sle 999#32 = true := by
      rw [BitVec.sle_eq_decide, toInt_word (h k)]
      refine decide_eq_true ?_
      have := h k
      have e : (999#32 : BitVec 32).toInt = 999 := by decide
      rw [e]; omega
    unfold IntOp.cmpi
    simp only [h1, h2]; rfl
  show Ideal.hostReduceAdd rB _ (Ideal.ofBits .f32 0x00000000#32) (ix2 r d) = _
  rw [Ideal.hostReduceAdd_single rB rB', Ideal.ofBits_zero_f32, zero_add]
  refine Finset.sum_congr rfl fun (j : Fin C) _ => ?_
  have hl : rB'.lift (ix2 r d) j = ix3 r j d := by
    funext a
    match a with
    | 0 => rfl
    | 1 => rfl
    | 2 => rfl
  rw [hl]
  have hin : ∀ k, Host.reduce IntOp.andi (andi (cmpi .sge (broadcastInDim ⟨3, ![16384, C, 1]⟩ ![0, 1] bB tok) (broadcastInDim ⟨3, ![16384, C, 1]⟩ ![] bS1 (constantI ⟨0, ![]⟩ 32 0#32)))
        (cmpi .sle (broadcastInDim ⟨3, ![16384, C, 1]⟩ ![0, 1] bB tok) (broadcastInDim ⟨3, ![16384, C, 1]⟩ ![0, 1, 2] bF (broadcastInDim ⟨3, ![1, 1, 1]⟩ ![2] bE (constantI ⟨1, ![1]⟩ 32 999#32)))))
        (constantI ⟨0, ![]⟩ 1 1#1) rA h0 k = 1#1 := fun k =>
    Host.reduce_andi_one _ _ rA h0 k rfl fun i => by obtain ⟨q, hq⟩ := hb i; exact (congrArg (fun x : BitVec 32 => IntOp.andi (IntOp.cmpi .sge x 0#32) (IntOp.cmpi .sle x 999#32)) hq).trans (hok q)
  refine Eq.trans (if_pos (hin _)) ?_
  rw [rows_at]
  refine congrArg emb (congrArg (fun q => ix2 q d) (Fin.ext ?_))
  show min (broadcastInDim ⟨3, ![16384, C, 1]⟩ ![0, 1] bB tok (ix3 r j 0)).toInt.toNat 999 = (tok (ix2 r j)).toNat
  rw [hb0]
  have := h (ix2 r j)
  rw [toInt_word this, Int.toNat_natCast]
  omega

end Sums

/-- A hidden layer on the rows. -/
abbrev hidden (s : FVec Ideal S16384x64 .f32) (w : FVec Ideal S64x64 .f32) (b : FVec Ideal S64 .f32) : FVec Ideal S16384x64 .f32 :=
  Host.tanh (addf (Host.dotGeneral dot_S16384x64_S64x64_S16384x64_1_0_0_1_n_n none s (transpose S64x64 [1, 0] w transposes_S64x64_S64x64_1_0))
    (broadcastInDim S16384x64 ![0, 1] bcast_S1x64_S16384x64_0_1 (broadcastInDim S1x64 ![1] bcast_S64_S1x64_1 b)))

theorem hidden_at (s : FVec Ideal S16384x64 .f32) (w : FVec Ideal S64x64 .f32) (b : FVec Ideal S64 .f32) (r : Fin 16384) (h : Fin 64) :
    hidden s w b (ix2 r h) = hid (fun d => s (ix2 r d)) (fun k h => w (ix2 h k)) (fun h => b (ix1 h)) h := by
  show Ideal.tanh (Host.dotGeneral (F := Ideal) (DotDims.plain 16384 64 64) none s (transpose S64x64 [1, 0] w transposes_S64x64_S64x64_1_0) (ix2 r h)
    + broadcastInDim S16384x64 ![0, 1] bcast_S1x64_S16384x64_0_1 (broadcastInDim S1x64 ![1] bcast_S64_S1x64_1 b) (ix2 r h)) = _
  rw [← matmul_zero_eq_dotGeneral, matmul_at]
  rw [broadcastInDim_apply ![0, 1] bcast_S1x64_S16384x64_0_1 _ (ix2 r h) (ix2 0 h) (by intro a; match a with | 0 => rfl | 1 => rfl),
    broadcastInDim_apply ![1] bcast_S64_S1x64_1 b (ix2 0 h) (ix1 h) (by intro a; match a with | 0 => rfl)]
  unfold hid
  congr 2
  exact Finset.sum_congr rfl fun k _ => congrArg (s (ix2 r k) * ·)
    (transpose_apply [1, 0] w transposes_S64x64_S64x64_1_0 (ix2 k h) (ix2 h k) (by intro a; match a with | 0 => rfl | 1 => rfl))

abbrev rowsum (x : FVec Ideal S16384x64 .f32) : FVec Ideal S16384 .f32 := Host.reduceAdd x (constant (F := Ideal) S_ .f32 0x00000000#32) reducesTo_S16384x64_S16384_d1 h_S_

theorem red : S16384x64.Reduces [1] S16384 := by decide

theorem rowsum_at (x : FVec Ideal S16384x64 .f32) (r : Fin 16384) : rowsum x (ix1 r) = ∑ h : Fin 64, x (ix2 r h) := by
  show Ideal.hostReduceAdd reducesTo_S16384x64_S16384_d1 x (Ideal.ofBits .f32 0x00000000#32) (ix1 r) = _
  rw [Ideal.hostReduceAdd_single reducesTo_S16384x64_S16384_d1 red, Ideal.ofBits_zero_f32, zero_add]
  refine Finset.sum_congr rfl fun h _ => congrArg x (funext fun a => ?_)
  match a with
  | 0 => rfl
  | 1 => rfl

/-- The cosines of the rows, and a cosine shifted and halved. -/
abbrev ratio (q t : FVec Ideal S16384x64 .f32) : FVec Ideal S16384 .f32 :=
  Host.divf (rowsum (mulf q t)) (addf (mulf (Host.sqrt (rowsum (mulf q q))) (Host.sqrt (rowsum (mulf t t)))) (broadcastInDim S16384 ![] bcast_S_S16384 (constant S_ .f32 0x2B8CBCCC#32)))
abbrev scaled (x : FVec Ideal S16384 .f32) : FVec Ideal S16384x1 .f32 :=
  Host.divf (addf (broadcastInDim S16384x1 ![0] bcast_S16384_S16384x1_0 x) (broadcastInDim S16384x1 ![] bcast_S_S16384x1 (constant S_ .f32 0x3F800000#32)))
    (broadcastInDim S16384x1 ![] bcast_S_S16384x1 (constant S_ .f32 0x40000000#32))

theorem scaled_at (x : FVec Ideal S16384 .f32) (r : Fin 16384) : scaled x (ix2 r 0) = (x (ix1 r) + 1) * Ideal.ofBits .f32 0x3F000000#32 := by
  have e : broadcastInDim S16384x1 ![0] bcast_S16384_S16384x1_0 x (ix2 r 0) = x (ix1 r) :=
    broadcastInDim_apply ![0] bcast_S16384_S16384x1_0 x (ix2 r 0) (ix1 r) (by intro a; match a with | 0 => rfl)
  show Ideal.div (broadcastInDim S16384x1 ![0] bcast_S16384_S16384x1_0 x (ix2 r 0) + Ideal.ofBits .f32 0x3F800000#32) (Ideal.ofBits .f32 0x40000000#32) = _
  rw [e, div_two, Ideal.ofBits_one_f32]

theorem over_at (n a b : FVec Ideal S16384 .f32) (r : Fin 16384) :
    Host.divf n (addf (mulf (Host.sqrt a) (Host.sqrt b)) (broadcastInDim S16384 ![] bcast_S_S16384 (constant S_ .f32 0x2B8CBCCC#32))) (ix1 r)
      = Ideal.div (n (ix1 r)) (Ideal.sqrt (a (ix1 r)) * Ideal.sqrt (b (ix1 r)) + Ideal.ofBits .f32 0x2B8CBCCC#32) := rfl

/-- The scores of two hidden layers' rows. -/
abbrev head (q t : FVec Ideal S16384x64 .f32) : FVec Ideal S16384x1 .f32 := scaled (ratio q t)

theorem head_at (q t : FVec Ideal S16384x64 .f32) (r : Fin 16384) :
    head q t (ix2 r 0) = cosine (fun h => q (ix2 r h)) (fun h => t (ix2 r h)) := by
  refine (scaled_at (ratio q t) r).trans ?_
  unfold ratio
  rw [over_at, rowsum_at, rowsum_at, rowsum_at]
  rfl

/-- The query rows' and the titles' summed embeddings. -/
abbrev sumQ (tok : IVec S16384x20 32) (emb : FVec Ideal S1000x64 .f32) : FVec Ideal S16384x64 .f32 :=
  summed 20 bcast_S16384x20_S16384x20x64_0_1 bcast_S16384x20_S16384x20x1_0_1 bcast_S_S16384x20x1 bcast_S1_S1x1x1_2 bcast_S1x1x1_S16384x20x1_0_1_2 bcast_S_S16384x20x64
    reducesTo_S16384x20x1_S16384x20_d2 reducesTo_S16384x20x64_S16384x64_d1 h_S_ gather_S1000x64_S16384x20x1_S16384x20x64_2_0_n_n_0_2_164_wf tok emb
abbrev sumT (tok : IVec S16384x200 32) (emb : FVec Ideal S1000x64 .f32) : FVec Ideal S16384x64 .f32 :=
  summed 200 bcast_S16384x200_S16384x200x64_0_1 bcast_S16384x200_S16384x200x1_0_1 bcast_S_S16384x200x1 bcast_S1_S1x1x1_2 bcast_S1x1x1_S16384x200x1_0_1_2 bcast_S_S16384x200x64
    reducesTo_S16384x200x1_S16384x200_d2 reducesTo_S16384x200x64_S16384x64_d1 h_S_ gather_S1000x64_S16384x200x1_S16384x200x64_2_0_n_n_0_2_164_wf tok emb

theorem redQ : S16384x20x64.Reduces [1] S16384x64 := by decide
theorem redT : S16384x200x64.Reduces [1] S16384x64 := by decide

section Res
variable (m : (ℓ : Loc nD τ sig) → Buf (Elt Ideal) ℓ) (c : Dev nD)

abbrev argQ : IVec S16384x20 32 := m ((c.tc : Thread nD τ).loc main_arg0)
abbrev argT : IVec S16384x200 32 := m ((c.tc : Thread nD τ).loc main_arg1)
abbrev argE : FVec Ideal S1000x64 .f32 := m ((c.tc : Thread nD τ).loc main_arg2)
abbrev argWq : FVec Ideal S64x64 .f32 := m ((c.tc : Thread nD τ).loc main_arg3)
abbrev argBq : FVec Ideal S64 .f32 := m ((c.tc : Thread nD τ).loc main_arg4)
abbrev argWt : FVec Ideal S64x64 .f32 := m ((c.tc : Thread nD τ).loc main_arg5)
abbrev argBt : FVec Ideal S64 .f32 := m ((c.tc : Thread nD τ).loc main_arg6)

theorem res_eq : Value.res_main_v28 (F := Ideal) m c
    = head (hidden (sumQ (wrapped 20 bcast_S_S16384x20 (argQ m c)) (argE m c)) (argWq m c) (argBq m c))
        (hidden (sumT (wrapped 200 bcast_S_S16384x200 (argT m c)) (argE m c)) (argWt m c) (argBt m c)) := rfl

/-- The reference's score of row `r`. -/
theorem res_at (hq : ∀ i, (argQ m c i).toNat < 1000) (ht : ∀ i, (argT m c i).toNat < 1000) (r : Fin 16384) :
    (Value.res_main_v28 (F := Ideal) m c : FVec Ideal S16384x1 .f32) (ix2 r 0)
      = cosine (hid (fun d => ∑ j : Fin 20, argE m c (ix2 ⟨(argQ m c (ix2 r j)).toNat, hq _⟩ d)) (fun k h => argWq m c (ix2 h k)) (fun h => argBq m c (ix1 h)))
          (hid (fun d => ∑ j : Fin 200, argE m c (ix2 ⟨(argT m c (ix2 r j)).toNat, ht _⟩ d)) (fun k h => argWt m c (ix2 h k)) (fun h => argBt m c (ix1 h))) := by
  rw [res_eq, wrapped_eq 20 _ _ hq, wrapped_eq 200 _ _ ht, head_at]
  refine congrArg₂ cosine (funext fun h => ?_) (funext fun h => ?_)
  · rw [hidden_at]
    exact congrArg (fun s => hid s _ _ h) (funext fun d => summed_at 20 _ _ _ _ _ _ _ _ _ _ (by decide) _ _ hq redQ r d)
  · rw [hidden_at]
    exact congrArg (fun s => hid s _ _ h) (funext fun d => summed_at 200 _ _ _ _ _ _ _ _ _ _ (by decide) _ _ ht redT r d)

end Res

end Cert.Proof.Run.Ref
-- ==== Proof.Final.lean ====
/-
  The kernel's scores are the reference's: the arrays the host hands the TensorCore call, in terms of the arguments, and
  the two results row by row.
-/
module

public import proofs.«01_k».proof.Proof.Arrays
public import proofs.«01_k».proof.Proof.RefValue

@[expose] public section

noncomputable section

namespace Cert.Proof.Run

open Cert.KernelIdeal Cert.KernelIdeal.Gen Cert.Proof.Counts

open Idealize.ShloMosaic Idealize.ShloMosaic.ValueIdx
open Idealize.ShloMosaic.TcCoe
open Idealize.SL.Sem

/-! ## The padded table -/

/-- Every update lands at its own index, the start being zero. -/
theorem lands (idx : IVec S1 32) (h0 : ∀ i, idx i = 0#32) (v : Fin 1000) (d : Fin 64) :
    scatter_S1024x64_S1_S1000x64_01_n_0_0.resultIdx? (ix2 v d) idx = some (ix2 ⟨v.val, by omega⟩ d) := by
  have hs : ∀ a, scatter_S1024x64_S1_S1000x64_01_n_0_0.start (ix2 v d) idx a = 0 := by
    intro a
    unfold ScatterDims.start
    split
    · rw [h0]; decide
    · rfl
  have w0 : scatter_S1024x64_S1_S1000x64_01_n_0_0.window (ix2 v d) 0 = v.val := rfl
  have w1 : scatter_S1024x64_S1_S1000x64_01_n_0_0.window (ix2 v d) 1 = d.val := rfl
  have hv := v.isLt
  have hd := d.isLt
  unfold ScatterDims.resultIdx?
  rw [dif_pos]
  · refine congrArg some (funext fun a => Fin.ext ?_)
    match a with
    | 0 => show (scatter_S1024x64_S1_S1000x64_01_n_0_0.start (ix2 v d) idx 0 + (scatter_S1024x64_S1_S1000x64_01_n_0_0.window (ix2 v d) 0 : ℕ)).toNat = v.val; rw [hs, w0]; omega
    | 1 => show (scatter_S1024x64_S1_S1000x64_01_n_0_0.start (ix2 v d) idx 1 + (scatter_S1024x64_S1_S1000x64_01_n_0_0.window (ix2 v d) 1 : ℕ)).toNat = d.val; rw [hs, w1]; omega
  · intro a
    rw [hs]
    match a with
    | 0 => show 0 ≤ (0 : ℤ) + (scatter_S1024x64_S1_S1000x64_01_n_0_0.window (ix2 v d) 0 : ℕ) ∧ (0 : ℤ) + (scatter_S1024x64_S1_S1000x64_01_n_0_0.window (ix2 v d) 0 : ℕ) < 1024; rw [w0]; omega
    | 1 => show 0 ≤ (0 : ℤ) + (scatter_S1024x64_S1_S1000x64_01_n_0_0.window (ix2 v d) 1 : ℕ) ∧ (0 : ℤ) + (scatter_S1024x64_S1_S1000x64_01_n_0_0.window (ix2 v d) 1 : ℕ) < 64; rw [w1]; omega

/-- The padded table at a word of the vocabulary is the embedding's. -/
theorem padded_at (x0 : FVec Ideal S1024x64 .f32) (idx : IVec S1 32) (h0 : ∀ i, idx i = 0#32) (emb : FVec Ideal S1000x64 .f32) (v : Fin 1000) (d : Fin 64) :
    Host.scatter scatter_S1024x64_S1_S1000x64_01_n_0_0 (fun _ b => b) x0 idx emb (ix2 ⟨v.val, by omega⟩ d) = emb (ix2 v d) := by
  refine Routing.scatter_set_hit _ x0 idx emb _ _ (fun k hk => ?_) (ix2 v d) (lands idx h0 v d)
  obtain ⟨a, b, rfl⟩ : ∃ (a : Fin 1000) (b : Fin 64), k = ix2 a b := ⟨k 0, k 1, eq_ix2 k⟩
  have hk := Option.some.inj ((lands idx h0 a b).symm.trans hk)
  refine congrArg emb (funext fun a => ?_)
  match a with
  | 0 => exact Fin.ext (congrArg (fun f : S1024x64.Idx => (f 0).val) hk)
  | 1 => exact Fin.ext (congrArg (fun f : S1024x64.Idx => (f 1).val) hk)

/-! ## The arrays before the TensorCore call -/

section Host
variable (m : (ℓ : Loc nD τ sig) → Buf (Elt Ideal) ℓ) (d : Dev nD)

abbrev aQ : IVec S16384x20 32 := m (d, Proc.devRef .tc main_arg0)
abbrev aT : IVec S16384x200 32 := m (d, Proc.devRef .tc main_arg1)
abbrev aE : FVec Ideal S1000x64 .f32 := m (d, Proc.devRef .tc main_arg2)
abbrev aWq : FVec Ideal S64x64 .f32 := m (d, Proc.devRef .tc main_arg3)
abbrev aBq : FVec Ideal S64 .f32 := m (d, Proc.devRef .tc main_arg4)
abbrev aWt : FVec Ideal S64x64 .f32 := m (d, Proc.devRef .tc main_arg5)
abbrev aBt : FVec Ideal S64 .f32 := m (d, Proc.devRef .tc main_arg6)

/-- An argument before the operations between the calls. -/
theorem W2_arg (r : Ref sig .tc) (h1 : r ∉ wr1) (hs : r ∉ [main_v0, main_v1, main_v2_0, main_v2_1]) : W2 m d (Proc.devRef .tc r) = m (d, Proc.devRef .tc r) := by
  rw [W2_of_ne m d _ (not_sc r hs)]
  unfold W1
  rw [StableHlo.after_of_writes_sub ops1 (W0 m d) ops1_writes h1]
  rfl

theorem W3_v3 : (W3 m d (Proc.devRef .tc main_v3) : FVec Ideal S16384x1024 .f32)
    = shapeCast S16384x1024 (tbl (F := Ideal) (N := 16777216) 20 (shapeCast S327680 (aQ m d) shapeCasts_S16384x20_S327680)) shapeCasts_S16777216_S16384x1024 := by
  have e : (W3 m d (Proc.devRef .tc main_v3) : FVec Ideal S16384x1024 .f32) = shapeCast S16384x1024 (W2 m d rCQ : FVec Ideal S16777216 .f32) shapeCasts_S16777216_S16384x1024 := by
    show StableHlo.after ops2 (W2 m d) (Proc.devRef .tc main_v3) = _
    after_results_simp; rfl
  rw [e, W2_rCQ, ← tokQ_eq]
  rfl
theorem W3_v4 : (W3 m d (Proc.devRef .tc main_v4) : FVec Ideal S16384x1024 .f32)
    = shapeCast S16384x1024 (tbl (F := Ideal) (N := 16777216) 200 (shapeCast S3276800 (aT m d) shapeCasts_S16384x200_S3276800)) shapeCasts_S16777216_S16384x1024 := by
  have e : (W3 m d (Proc.devRef .tc main_v4) : FVec Ideal S16384x1024 .f32) = shapeCast S16384x1024 (W2 m d rCT : FVec Ideal S16777216 .f32) shapeCasts_S16777216_S16384x1024 := by
    show StableHlo.after ops2 (W2 m d) (Proc.devRef .tc main_v4) = _
    after_results_simp; rfl
  rw [e, W2_rCT, ← tokT_eq]
  rfl
theorem W3_v7 : (W3 m d (Proc.devRef .tc main_v7) : FVec Ideal S1024x64 .f32)
    = Host.scatter scatter_S1024x64_S1_S1000x64_01_n_0_0 (fun _ b => b) (broadcastInDim S1024x64 ![] bcast_S_S1024x64 (constant (F := Ideal) S_ .f32 0x00000000#32))
        (broadcastInDim S1 ![] bcast_S_S1 (constantI S_ 32 0#32)) (aE m d) := by
  have e : (W3 m d (Proc.devRef .tc main_v7) : FVec Ideal S1024x64 .f32)
      = Host.scatter scatter_S1024x64_S1_S1000x64_01_n_0_0 (fun _ b => b) (broadcastInDim S1024x64 ![] bcast_S_S1024x64 (constant (F := Ideal) S_ .f32 0x00000000#32))
        (broadcastInDim S1 ![] bcast_S_S1 (constantI S_ 32 0#32)) (W2 m d (Proc.devRef .tc main_arg2) : FVec Ideal S1000x64 .f32) := by
    show StableHlo.after ops2 (W2 m d) (Proc.devRef .tc main_v7) = _
    after_results_simp
  rw [e, W2_arg m d main_arg2 (by decide) (by decide)]
theorem W3_v8 : (W3 m d (Proc.devRef .tc main_v8) : FVec Ideal S64x64 .f32) = transpose S64x64 [1, 0] (aWq m d) transposes_S64x64_S64x64_1_0 := by
  have e : (W3 m d (Proc.devRef .tc main_v8) : FVec Ideal S64x64 .f32) = transpose S64x64 [1, 0] (W2 m d (Proc.devRef .tc main_arg3) : FVec Ideal S64x64 .f32) transposes_S64x64_S64x64_1_0 := by
    show StableHlo.after ops2 (W2 m d) (Proc.devRef .tc main_v8) = _
    after_results_simp
  rw [e, W2_arg m d main_arg3 (by decide) (by decide)]
theorem W3_v9 : (W3 m d (Proc.devRef .tc main_v9) : FVec Ideal S1x64 .f32) = shapeCast S1x64 (aBq m d) shapeCasts_S64_S1x64 := by
  have e : (W3 m d (Proc.devRef .tc main_v9) : FVec Ideal S1x64 .f32) = shapeCast S1x64 (W2 m d (Proc.devRef .tc main_arg4) : FVec Ideal S64 .f32) shapeCasts_S64_S1x64 := by
    show StableHlo.after ops2 (W2 m d) (Proc.devRef .tc main_v9) = _
    after_results_simp; rfl
  rw [e, W2_arg m d main_arg4 (by decide) (by decide)]
theorem W3_v10 : (W3 m d (Proc.devRef .tc main_v10) : FVec Ideal S64x64 .f32) = transpose S64x64 [1, 0] (aWt m d) transposes_S64x64_S64x64_1_0 := by
  have e : (W3 m d (Proc.devRef .tc main_v10) : FVec Ideal S64x64 .f32) = transpose S64x64 [1, 0] (W2 m d (Proc.devRef .tc main_arg5) : FVec Ideal S64x64 .f32) transposes_S64x64_S64x64_1_0 := by
    show StableHlo.after ops2 (W2 m d) (Proc.devRef .tc main_v10) = _
    after_results_simp
  rw [e, W2_arg m d main_arg5 (by decide) (by decide)]
theorem W3_v11 : (W3 m d (Proc.devRef .tc main_v11) : FVec Ideal S1x64 .f32) = shapeCast S1x64 (aBt m d) shapeCasts_S64_S1x64 := by
  have e : (W3 m d (Proc.devRef .tc main_v11) : FVec Ideal S1x64 .f32) = shapeCast S1x64 (W2 m d (Proc.devRef .tc main_arg6) : FVec Ideal S64 .f32) shapeCasts_S64_S1x64 := by
    show StableHlo.after ops2 (W2 m d) (Proc.devRef .tc main_v11) = _
    after_results_simp; rfl
  rw [e, W2_arg m d main_arg6 (by decide) (by decide)]

/-! ## The score of a row -/

theorem transposed_at (w : FVec Ideal S64x64 .f32) (k h : Fin 64) : transpose S64x64 [1, 0] w transposes_S64x64_S64x64_1_0 (ix2 k h) = w (ix2 h k) :=
  transpose_apply [1, 0] w transposes_S64x64_S64x64_1_0 (ix2 k h) (ix2 h k) (by intro a; match a with | 0 => rfl | 1 => rfl)

theorem bias_at (b : FVec Ideal S64 .f32) (h : Fin 64) : shapeCast S1x64 b shapeCasts_S64_S1x64 (ix2 0 h) = b (ix1 h) :=
  shapeCast_apply b shapeCasts_S64_S1x64 (ix2 0 h) (ix1 h) (by rw [Shape.rowMajor_val_one, Shape.rowMajor_val_two]; show h.val = 0 * 64 + h.val; omega)

theorem counts_at (x : FVec Ideal S16777216 .f32) (R : Fin 16384) (v : Fin 1024) :
    shapeCast S16384x1024 x shapeCasts_S16777216_S16384x1024 (ix2 R v) = x (ix1 ⟨R.val * 1024 + v.val, by have := R.isLt; have := v.isLt; omega⟩) :=
  shapeCast_apply x shapeCasts_S16777216_S16384x1024 (ix2 R v) (ix1 ⟨R.val * 1024 + v.val, by have := R.isLt; have := v.isLt; omega⟩)
    (by rw [Shape.rowMajor_val_one, Shape.rowMajor_val_two]; show R.val * 1024 + v.val = R.val * 1024 + v.val; exact Eq.refl _)

/-- A row of counts times a table of vectors is the sum of the vectors the row's tokens name. -/
theorem row_words {C M : ℕ} (hM : M = 16384 * C) (tok : IVec ⟨2, ![16384, C]⟩ 32) (hs : (⟨2, ![16384, C]⟩ : Shape).ShapeCasts ⟨1, ![M]⟩) (htok : ∀ i, (tok i).toNat < 1000)
    (P : FVec Ideal S1024x64 .f32) (R : Fin 16384) (e : Fin 64) :
    ∑ v : Fin 1024, shapeCast S16384x1024 (tbl (F := Ideal) (N := 16777216) C (shapeCast ⟨1, ![M]⟩ tok hs)) shapeCasts_S16777216_S16384x1024 (ix2 R v) * P (ix2 v e)
      = ∑ j : Fin C, P (ix2 ⟨(tok (ix2 R j)).toNat, (htok _).trans (by decide)⟩ e) := by
  simp only [counts_at]
  exact tbl_sum hM tok hs htok R fun v => P (ix2 v e)

/-- With the padded table, the sum of the embeddings of the row's tokens. -/
theorem row_sum {C M : ℕ} (hM : M = 16384 * C) (tok : IVec ⟨2, ![16384, C]⟩ 32) (hs : (⟨2, ![16384, C]⟩ : Shape).ShapeCasts ⟨1, ![M]⟩) (htok : ∀ i, (tok i).toNat < 1000)
    (P : FVec Ideal S1024x64 .f32) (emb : FVec Ideal S1000x64 .f32) (hP : ∀ (v : Fin 1000) e, P (ix2 ⟨v.val, by omega⟩ e) = emb (ix2 v e)) (R : Fin 16384) (e : Fin 64) :
    ∑ v : Fin 1024, shapeCast S16384x1024 (tbl (F := Ideal) (N := 16777216) C (shapeCast ⟨1, ![M]⟩ tok hs)) shapeCasts_S16777216_S16384x1024 (ix2 R v) * P (ix2 v e)
      = ∑ j : Fin C, emb (ix2 ⟨(tok (ix2 R j)).toNat, htok _⟩ e) :=
  (row_words hM tok hs htok P R e).trans (Finset.sum_congr rfl fun j _ => hP ⟨(tok (ix2 R j)).toNat, htok _⟩ e)

theorem hid_congr {s s' : Fin 64 → EReal} {w w' : Fin 64 → Fin 64 → EReal} {b b' : Fin 64 → EReal} (hs : ∀ e, s e = s' e) (hw : ∀ k h, w k h = w' k h) (hb : ∀ h, b h = b' h) :
    hid s w b = hid s' w' b' := by
  rw [funext hs, funext fun k => funext (hw k), funext hb]

/-- The padded table as the host leaves it. -/
theorem table_at (v : Fin 1000) (e : Fin 64) : (W3 m d (Proc.devRef .tc main_v7) : FVec Ideal S1024x64 .f32) (ix2 ⟨v.val, by omega⟩ e) = aE m d (ix2 v e) := by
  rw [W3_v7]
  exact padded_at _ _ (fun _ => rfl) _ v e

/-- The two arrays of counts and the padded table, as matrices. -/
abbrev mQ : FVec Ideal S16384x1024 .f32 := W3 m d (Proc.devRef .tc main_v3)
abbrev mT : FVec Ideal S16384x1024 .f32 := W3 m d (Proc.devRef .tc main_v4)
abbrev mP : FVec Ideal S1024x64 .f32 := W3 m d (Proc.devRef .tc main_v7)

theorem query_sum (hq : ∀ i, (aQ m d i).toNat < 1000) (R : Fin 16384) (e : Fin 64) :
    ∑ v : Fin 1024, mQ m d (ix2 R v) * mP m d (ix2 v e)
      = ∑ j : Fin 20, aE m d (ix2 ⟨(aQ m d (ix2 R j)).toNat, hq _⟩ e) := by
  unfold mQ
  rw [W3_v3]
  exact row_sum (by norm_num) (aQ m d) _ hq _ _ (table_at m d) R e
theorem title_sum (ht : ∀ i, (aT m d i).toNat < 1000) (R : Fin 16384) (e : Fin 64) :
    ∑ v : Fin 1024, mT m d (ix2 R v) * mP m d (ix2 v e)
      = ∑ j : Fin 200, aE m d (ix2 ⟨(aT m d (ix2 R j)).toNat, ht _⟩ e) := by
  unfold mT
  rw [W3_v4]
  exact row_sum (by norm_num) (aT m d) _ ht _ _ (table_at m d) R e

/-- The kernel's score of row `R`. -/
theorem kernel_at (hq : ∀ i, (aQ m d i).toNat < 1000) (ht : ∀ i, (aT m d i).toNat < 1000) (t : Fin cfg1.N) (r : Fin 1024) :
    (W4 m d (Proc.devRef .tc main_v12) : FVec Ideal S16384x1 .f32) (ix2 (rowOf t r) 0)
      = cosine (hid (fun e => ∑ j : Fin 20, aE m d (ix2 ⟨(aQ m d (ix2 (rowOf t r) j)).toNat, hq _⟩ e)) (fun k h => aWq m d (ix2 h k)) (fun h => aBq m d (ix1 h)))
          (hid (fun e => ∑ j : Fin 200, aE m d (ix2 ⟨(aT m d (ix2 (rowOf t r) j)).toNat, ht _⟩ e)) (fun k h => aWt m d (ix2 h k)) (fun h => aBt m d (ix1 h))) := by
  have e0 : (W4 m d (Proc.devRef .tc main_v12) : FVec Ideal S16384x1 .f32) = scores (W3 m d) := VE_result (W3 m) d
  rw [e0, scores_at]
  refine (score_at _ _ _ _ _ _ _ r).trans ?_
  rw [blk2_at, blk3_at, blk4_at, blk5_at, blk6_at]
  refine congrArg₂ cosine (hid_congr (fun e => ?_) (fun k h => ?_) fun h => ?_) (hid_congr (fun e => ?_) (fun k h => ?_) fun h => ?_)
  · refine (Finset.sum_congr rfl fun v _ => ?_).trans (query_sum m d hq (rowOf t r) e)
    rw [blk0_at]
  · rw [W3_v8]; exact transposed_at _ k h
  · rw [W3_v9]; exact bias_at _ h
  · refine (Finset.sum_congr rfl fun v _ => ?_).trans (title_sum m d ht (rowOf t r) e)
    rw [blk1_at]
  · rw [W3_v10]; exact transposed_at _ k h
  · rw [W3_v11]; exact bias_at _ h

end Host

end Cert.Proof.Run
-- ==== Proof.Equal.lean ====
/-
  The two programs' results are equal over the extended reals.
-/
module

public import proofs.«01_k».proof.Proof.Final

@[expose] public section

noncomputable section

namespace Cert.Proof.Run

open Cert.KernelIdeal Cert.KernelIdeal.Gen Cert.Proof.Counts

open Idealize.ShloMosaic Idealize.ShloMosaic.ValueIdx
open Idealize.ShloMosaic.TcCoe
open Idealize.SL.Sem

/-- Every row is a row of some point's block. -/
theorem row_split (i : S16384x1.Idx) : ∃ (t : Fin cfg1.N) (r : Fin 1024), i = ix2 (rowOf t r) 0 := by
  have h0 : (i 0).val < 16384 := (i 0).isLt
  refine ⟨⟨(i 0).val / 1024, lt_of_lt_of_eq (by omega) N16.symm⟩, ⟨(i 0).val % 1024, Nat.mod_lt _ (by decide)⟩, funext fun x => ?_⟩
  match x with
  | 0 => exact Fin.ext (show (i 0).val = (i 0).val / 1024 * 1024 + (i 0).val % 1024 by omega)
  | 1 => exact Subsingleton.elim (α := Fin 1) _ _

/-- The kernel's scores and the reference's, from the same arguments. -/
theorem results_equal (m : (ℓ : Loc nD τ sig) → Buf (Elt Ideal) ℓ) (m' : (ℓ : Loc Cert.ReferenceIdeal.nD Cert.ReferenceIdeal.τ Cert.ReferenceIdeal.sig) → Buf (Elt Ideal) ℓ) (c : Dev nD)
    (hq : ∀ i, (aQ m c i).toNat < 1000) (ht : ∀ i, (aT m c i).toNat < 1000)
    (e0 : Ref.argQ m' c = aQ m c) (e1 : Ref.argT m' c = aT m c) (e2 : Ref.argE m' c = aE m c) (e3 : Ref.argWq m' c = aWq m c) (e4 : Ref.argBq m' c = aBq m c)
    (e5 : Ref.argWt m' c = aWt m c) (e6 : Ref.argBt m' c = aBt m c) :
    (Cert.ReferenceIdeal.Value.res_main_v28 (F := Ideal) m' c : FVec Ideal S16384x1 .f32) = (W4 m c (Proc.devRef .tc main_v12) : FVec Ideal S16384x1 .f32) := by
  funext i
  obtain ⟨t, r, rfl⟩ := row_split i
  rw [kernel_at m c hq ht t r]
  refine (Ref.res_at m' c (by rw [e0]; exact hq) (by rw [e1]; exact ht) (rowOf t r)).trans ?_
  simp only [e0, e1, e2, e3, e4, e5, e6]

theorem frame_reference_pre : Cert.quiescent_ReferenceIdeal_pre_tokens_in_vocabulary := fun m ρ _ =>
  (θ_run Cert.ReferenceIdeal.defs _ _).mono (fun r h => ⟨fun c => (h c).2, sem_eq_zero_of_no_sems (by decide) r.2⟩) (Cert.ReferenceIdeal.Value.run (F := Ideal) m ρ)

/-- The kernel's run, its result and its arguments read. -/
theorem kernel_run (m : (ℓ : Loc nD τ sig) → Buf (Elt Ideal) ℓ) (ρ : Dev nD → PrngReg)
    (h : ∀ d, (∀ i, (aQ m d i).toNat < 1000) ∧ ∀ i, (aT m d i).toNat < 1000) :
    θ_run (Cert.KernelIdeal.defs (F := Ideal)) (Cert.KernelIdeal.threads (F := Ideal)) ⟨m, fun _ => 0, ρ⟩
      fun r => ∀ c, r.2.mem (c.tc.loc main_v12) = W4 m c (Proc.devRef .tc main_v12) ∧ Kept m r.2 c :=
  (θ_run (Cert.KernelIdeal.defs (F := Ideal)) _ _).mono
    (fun r h c => ⟨h.1 c _ (mem_uc main_v12 (by decide)), kept_of m r.2 c (h.1 c)⟩)
    (run_main m ρ (ok_of_words m h))

theorem algebraic : Cert.algebraic_KernelIdeal_ReferenceIdeal := fun m ρ m' ρ' hpre hargs => by
  have hw : ∀ d, (∀ i, (aQ m d i).toNat < 1000) ∧ ∀ i, (aT m d i).toNat < 1000 := fun d => pre_words _ _ _ _ _ _ _ (hpre d)
  refine ⟨fun c => W4 m c (Proc.devRef .tc main_v12), kernel_run m ρ hw, ?_⟩
  refine (θ_run Cert.ReferenceIdeal.defs _ _).mono (fun r h c => ⟨(h c).1.trans ?_, (h c).2⟩) (Cert.ReferenceIdeal.Value.run (F := Ideal) m' ρ')
  obtain ⟨e0, e1, e2, e3, e4, e5, e6⟩ := hargs c
  exact results_equal m m' c (hw c).1 (hw c).2 e0 e1 e2 e3 e4 e5 e6

end Cert.Proof.Run
-- ==== Proof.lean ====
/-
  The certificate's claim, from the runs of the two programs (Proof/Main.lean, read in Proof/Frames.lean), the reference's
  run, and the equality of their results (Proof/Equal.lean).
-/
module

public import proofs.«01_k».proof.Proof.Equal

@[expose] public section

noncomputable section

namespace Cert.Proof

theorem claim : Cert.Claim :=
  ⟨Cert.Kernel.Gen.facts, Cert.KernelIdeal.Gen.facts, Cert.ReferenceIdeal.Gen.facts, Cert.Pre_tokens_in_vocabulary.Gen.facts,
    Run.frame_kernel, Run.frame_ideal, Run.frame_reference, Run.frame_reference_pre, trivial, Run.algebraic⟩

end Cert.Proof
